-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S3200000 : Shape := ⟨1, ![3200000]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel

variable [Facts]

def fn {F : FTy → Type} [FloatOps F] (main_arg0 : FVec F S3200000 .f32) (main_arg1 : FVec F S3200000 .f32) (main_arg2 : IVec S3200000 32) : IVec S_ 1 :=
  let main_c : IVec S_ 32 := constantI S_ 32 0#32
  let main_v0 : IVec S3200000 32 := broadcastInDim S3200000 ![] bcast_S_S3200000 main_c
  let main_v1 : IVec S3200000 1 := cmpi .sge main_arg2 main_v0
  let main_c_0 : IVec S_ 32 := constantI S_ 32 8#32
  let main_v2 : IVec S3200000 32 := broadcastInDim S3200000 ![] bcast_S_S3200000 main_c_0
  let main_v3 : IVec S3200000 1 := cmpi .slt main_arg2 main_v2
  let main_v4 : IVec S3200000 1 := andi main_v1 main_v3
  let main_c_1 : IVec S_ 1 := constantI S_ 1 1#1
  let main_v5 : IVec S_ 1 := (fun x v => Host.reduce IntOp.andi x v reducesTo_S3200000_S_d0 h_S_) main_v4 main_c_1
  main_v5
-- ==== Kernel.lean ====
abbrev S3200000 : Shape := ⟨1, ![3200000]⟩
abbrev S32x128 : Shape := ⟨2, ![32, 128]⟩
abbrev S10000 : Shape := ⟨1, ![10000]⟩
abbrev S128 : Shape := ⟨1, ![128]⟩
abbrev S16 : Shape := ⟨1, ![16]⟩
abbrev S_ : Shape := ⟨0, ![]⟩
abbrev S1x128 : Shape := ⟨2, ![1, 128]⟩
abbrev S1x1 : Shape := ⟨2, ![1, 1]⟩
abbrev S1x1x128 : Shape := ⟨3, ![1, 1, 128]⟩
abbrev S1 : Shape := ⟨1, ![1]⟩
abbrev S1x1x1 : Shape := ⟨3, ![1, 1, 1]⟩

abbrev nBuf : Table → Nat
  | .hbm => 7
  | .local .tc .vmem => 3
  | .local .scVector .vmem => 5
  | _ => 0

abbrev bufTy : (tb : Table) → Fin (nBuf tb) → BufTy
  | .hbm, ⟨0, _⟩ => ⟨S3200000, .f32⟩
  | .hbm, ⟨1, _⟩ => ⟨S3200000, .f32⟩
  | .hbm, ⟨2, _⟩ => ⟨S3200000, .i32⟩
  | .hbm, ⟨3, _⟩ => ⟨S32x128, .f32⟩
  | .hbm, ⟨4, _⟩ => ⟨S32x128, .f32⟩
  | .hbm, ⟨5, _⟩ => ⟨S1x1, .f32⟩
  | .hbm, ⟨6, _⟩ => ⟨S_, .f32⟩
  | .local .tc .vmem, ⟨0, _⟩ => ⟨S32x128, .f32⟩
  | .local .tc .vmem, ⟨1, _⟩ => ⟨S32x128, .f32⟩
  | .local .tc .vmem, ⟨2, _⟩ => ⟨S1x1, .f32⟩
  | .local .scVector .vmem, ⟨0, _⟩ => ⟨S10000, .f32⟩
  | .local .scVector .vmem, ⟨1, _⟩ => ⟨S10000, .f32⟩
  | .local .scVector .vmem, ⟨2, _⟩ => ⟨S10000, .i32⟩
  | .local .scVector .vmem, ⟨3, _⟩ => ⟨S128, .f32⟩
  | .local .scVector .vmem, ⟨4, _⟩ => ⟨S128, .f32⟩
  | _, _ => ⟨S3200000, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_9 : BitVec 32 := 0#32
  let c10_i32 : BitVec 32 := 10#32
  let v22 : BitVec 32 := Scalar.addi c0_i32_9 c10_i32
  let c1_i32 : BitVec 32 := 1#32
  ⟨c0_i32_9, v22, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c0_i32_9 : BitVec 32 := 0#32
  let c1_i32 : BitVec 32 := 1#32
  let arg12 : BitVec 32 := Scf.iv c0_i32_9 c1_i32 k0_t1
  let c10000_i32 : BitVec 32 := 10000#32
  let v23 : BitVec 32 := Scalar.muli arg12 c10000_i32
  let v24 : BitVec 32 := Scalar.addi v2 v23
  ![v24.toNat]
@[reducible] def k0_t2_loop : Scf.Loop 32 :=
  let c0_i32_11 : BitVec 32 := 0#32
  let c625_i32 : BitVec 32 := 625#32
  let v25 : BitVec 32 := Scalar.addi c0_i32_11 c625_i32
  let c1_i32_12 : BitVec 32 := 1#32
  ⟨c0_i32_11, v25, c1_i32_12⟩
def k0_off2 (k0_t2 : Fin k0_t2_loop.trips) : Fin 1 → Nat :=
  let c0_i32_11 : BitVec 32 := 0#32
  let c1_i32_12 : BitVec 32 := 1#32
  let arg13 : BitVec 32 := Scf.iv c0_i32_11 c1_i32_12 k0_t2
  let c16_i32 : BitVec 32 := 16#32
  let v26 : BitVec 32 := Scalar.muli arg13 c16_i32
  let v27 : Index := Scalar.indexCast v26
  ![v27.toNat]

def k0_chk1 (v36 : IVec S16 32) : Prop :=
  (∀ a x, ((![v36] : Fin 1 → IVec S16 32) a x).toNat < S128.size a) ∧
  (∀ a x, ((![v36] : Fin 1 → IVec S16 32) a x).toNat < S128.size a)
theorem k0_idx1_inb : ∀ (v36 : IVec S16 32) (k0_hw1 : k0_chk1 v36), ∀ a x, ((![v36] : Fin 1 → IVec S16 32) a x).toNat < S128.size a := fun v36 k0_hw1 => k0_hw1.1
theorem k0_idx2_inb : ∀ (v36 : IVec S16 32) (k0_hw1 : k0_chk1 v36), ∀ a x, ((![v36] : Fin 1 → IVec S16 32) a x).toNat < S128.size a := fun v36 k0_hw1 => k0_hw1.2
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r3 : BitVec 32 := 0#32
  ![v1.toNat, 0]
abbrev grid1 : Pipeline.Grid := .none

abbrev stage1_0 : Fin 1 → Memref sig .tc .vmem S32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3200000 : Shape := ⟨1, ![3200000]⟩
abbrev S_ : Shape := ⟨0, ![]⟩
abbrev S8 : Shape := ⟨1, ![8]⟩
abbrev S3200000x1 : Shape := ⟨2, ![3200000, 1]⟩
abbrev S1 : Shape := ⟨1, ![1]⟩

abbrev nBuf : Space → Nat
  | .hbm => 47
  | .vmem => 0
  | .smem => 0
  | _ => 0

abbrev bufTy : (tb : Table) → Fin (tcTables nBuf tb) → BufTy
  | .hbm, ⟨0, _⟩ => ⟨S3200000, .f32⟩
  | .hbm, ⟨1, _⟩ => ⟨S3200000, .f32⟩
  | .hbm, ⟨2, _⟩ => ⟨S3200000, .i32⟩
  | .hbm, ⟨3, _⟩ => ⟨S3200000, .f32⟩
  | .hbm, ⟨4, _⟩ => ⟨S3200000, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8, .f32⟩
  | .hbm, ⟨11, _⟩ => ⟨S3200000x1, .i32⟩
  | .hbm, ⟨12, _⟩ => ⟨S8, .f32⟩
  | .hbm, ⟨13, _⟩ => ⟨S_, .f32⟩
  | .hbm, ⟨14, _⟩ => ⟨S3200000, .f32⟩
  | .hbm, ⟨15, _⟩ => ⟨S_, .f32⟩
  | .hbm, ⟨16, _⟩ => ⟨S8, .f32⟩
  | .hbm, ⟨17, _⟩ => ⟨S3200000x1, .i32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S_, .i32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S3200000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_cst_3 : Ref sig .tc := ⟨.hbm, 39, rfl⟩
abbrev main_call0_v11 : Ref sig .tc := ⟨.hbm, 40, rfl⟩
abbrev main_call0_cst_4 : Ref sig .tc := ⟨.hbm, 41, rfl⟩
abbrev main_call0_call0_v0 : Ref sig .tc := ⟨.hbm, 42, rfl⟩
abbrev main_v14 : Ref sig .tc := ⟨.hbm, 43, rfl⟩
abbrev main_cst_5 : Ref sig .tc := ⟨.hbm, 44, rfl⟩
abbrev main_v15 : Ref sig .tc := ⟨.hbm, 45, rfl⟩
abbrev main_v16 : Ref sig .tc := ⟨.hbm, 46, rfl⟩

abbrev nD : Nat := 1
abbrev τ : Topo := Topo.v7x

variable {F : FTy → Type} [FloatOps F]
-- ==== Proof.KernelIdealTask.lean ====
/-
  The vector subcores' task of the kernel's SparseCore call, for any float arithmetic: what one task computes (`sums`, `cnts`) and the proof that its
  program computes it (`tile_body`).

  The task on subcore `s` of SparseCore `c` reads elements `base‥base + 100000` of the three arguments, `base = 200000 s + 100000 c`, in ten chunks of
  10000. It keeps two tables of 128 cells, cell `16 g + l` for group `g` and lane `l`. Each vector of sixteen elements adds its squared differences to
  the first table and ones to the second, at the cells its labels and lanes name. At its end the task writes the tables to row `2 s + c` of the two
  results.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## What a task computes -/

/-- Position `n` of an argument array (of `n`'s remainder, so that every number names one). -/
def argIx (n : ℕ) : S3200000.Idx := fun a => ⟨n % S3200000.size a, Nat.mod_lt _ (by fin_cases a; decide)⟩

/-- Position `n` of a chunk. -/
def chunkIx (n : ℕ) : S10000.Idx := fun a => ⟨n % S10000.size a, Nat.mod_lt _ (by fin_cases a; decide)⟩

/-- The 10000 elements of `A` from position `b` on. -/
def chunk {α : Type} (A : S3200000.Idx → α) (b : ℕ) : S10000.Idx → α := fun x => A (argIx (b + (x 0).val))

/-- The sixteen elements of the chunk `C` from position `16 n` on. -/
def vec {α : Type} (C : S10000.Idx → α) (n : ℕ) : S16.Idx → α := fun x => C (chunkIx (16 * n + (x 0).val))

/-- The vector of lane numbers. -/
abbrev lanes : IVec S16 32 := iota .scVector S16 32 [0] iota_S16_d0_w32_scVector

variable [FloatOps F]

/-- The first table after one vector of predictions `p`, targets `t` and labels `l`: each lane's squared difference added at the cell of its label and
    lane. -/
def addSums (p t : Vec F S16 .f32) (l : Vec F S16 .i32) (acc : Vec F S128 .f32) : Vec F S128 .f32 :=
  if h : k0_chk1 (k0_pay1 (F := F) lanes l) then
    storeIdx acc ![k0_pay1 (F := F) lanes l] (k0_pay2 p t) (fun _ => 1#1) true (k0_idx1_inb _ h)
  else acc

/-- The second table after one vector of labels `l`: a one added at the cell of each lane's label and lane. -/
def addCnts (l : Vec F S16 .i32) (acc : Vec F S128 .f32) : Vec F S128 .f32 :=
  if h : k0_chk1 (k0_pay1 (F := F) lanes l) then
    storeIdx acc ![k0_pay1 (F := F) lanes l] (k0_pay4 (F := F)) (fun _ => 1#1) true (k0_idx2_inb _ h)
  else acc

/-- The first table after the first `k` vectors of a chunk. -/
def chunkSums (p t : Vec F S10000 .f32) (l : Vec F S10000 .i32) (acc : Vec F S128 .f32) : ℕ → Vec F S128 .f32
  | 0 => acc
  | k + 1 => addSums (vec p k) (vec t k) (vec l k) (chunkSums p t l acc k)

/-- The second table after the first `k` vectors of a chunk. -/
def chunkCnts (l : Vec F S10000 .i32) (acc : Vec F S128 .f32) : ℕ → Vec F S128 .f32
  | 0 => acc
  | k + 1 => addCnts (vec l k) (chunkCnts l acc k)

/-- A table of zeros. -/
def zeros : Vec F S128 .f32 := fun _ => Scalar.ofBits .f32 0x00000000#32

/-- The first table of the task at base `b` after its first `k` chunks of the arguments `p`, `t` and `l`. -/
def sums (p t : Vec F S3200000 .f32) (l : Vec F S3200000 .i32) (b : ℕ) : ℕ → Vec F S128 .f32
  | 0 => zeros
  | k + 1 => chunkSums (chunk p (b + 10000 * k)) (chunk t (b + 10000 * k)) (chunk l (b + 10000 * k)) (sums p t l b k) 625

/-- The second table of the task at base `b` after its first `k` chunks of the labels `l`. -/
def cnts (l : Vec F S3200000 .i32) (b : ℕ) : ℕ → Vec F S128 .f32
  | 0 => zeros
  | k + 1 => chunkCnts (chunk l (b + 10000 * k)) (cnts l b k) 625

/-! ## The program as the launch theorem sees it -/

abbrev ΛP : Labels := Pipeline.Sig Λ₀ (Fin 1) fun p => (pcfgs (F := F) p).Adm
abbrev K : SparseCore.Cfg τ sig (ΛP (F := F)) 1 := sc (F := F)
omit [FloatOps F] in
theorem nSub_zero : grid0.bound 1 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The memory and the buffers -/

variable (m : (ℓ : Loc nD τ sig) → Buf (Elt F) ℓ) (ρ : Dev nD → PrngReg)

abbrev pLoc (d : Dev nD) : Loc nD τ sig := (SparseCore.T d).loc main_arg0
abbrev tLoc (d : Dev nD) : Loc nD τ sig := (SparseCore.T d).loc main_arg1
abbrev lLoc (d : Dev nD) : Loc nD τ sig := (SparseCore.T d).loc main_arg2
abbrev sLoc (d : Dev nD) : Loc nD τ sig := (SparseCore.T d).loc main_v0_0
abbrev cLoc (d : Dev nD) : Loc nD τ sig := (SparseCore.T d).loc main_v0_1

local notation "pV" => (Memref.whole Cert.KernelIdeal.main_arg0_scv : Memref Cert.KernelIdeal.sig Kind.scVector Space.hbm Cert.KernelIdeal.S3200000 EltTy.f32)
local notation "tV" => (Memref.whole Cert.KernelIdeal.main_arg1_scv : Memref Cert.KernelIdeal.sig Kind.scVector Space.hbm Cert.KernelIdeal.S3200000 EltTy.f32)
local notation "lV" => (Memref.whole Cert.KernelIdeal.main_arg2_scv : Memref Cert.KernelIdeal.sig Kind.scVector Space.hbm Cert.KernelIdeal.S3200000 EltTy.i32)
local notation "sV" => (Memref.whole Cert.KernelIdeal.main_v0_0_scv : Memref Cert.KernelIdeal.sig Kind.scVector Space.hbm Cert.KernelIdeal.S32x128 EltTy.f32)
local notation "cV" => (Memref.whole Cert.KernelIdeal.main_v0_1_scv : Memref Cert.KernelIdeal.sig Kind.scVector Space.hbm Cert.KernelIdeal.S32x128 EltTy.f32)
local notation "pB" => (Memref.whole Cert.KernelIdeal.cc0_scratch0 : Memref Cert.KernelIdeal.sig Kind.scVector Space.vmem Cert.KernelIdeal.S10000 EltTy.f32)
local notation "tB" => (Memref.whole Cert.KernelIdeal.cc0_scratch1 : Memref Cert.KernelIdeal.sig Kind.scVector Space.vmem Cert.KernelIdeal.S10000 EltTy.f32)
local notation "lB" => (Memref.whole Cert.KernelIdeal.cc0_scratch2 : Memref Cert.KernelIdeal.sig Kind.scVector Space.vmem Cert.KernelIdeal.S10000 EltTy.i32)
local notation "sA" => (Memref.whole Cert.KernelIdeal.cc0_scratch3 : Memref Cert.KernelIdeal.sig Kind.scVector Space.vmem Cert.KernelIdeal.S128 EltTy.f32)
local notation "cA" => (Memref.whole Cert.KernelIdeal.cc0_scratch4 : Memref Cert.KernelIdeal.sig Kind.scVector Space.vmem Cert.KernelIdeal.S128 EltTy.f32)

/-- What the proof asks of the launch memory: every label names one of the eight groups. -/
def PreOK : Prop := ∀ (d : Dev nD) (j : S3200000.Idx), (m (lLoc d) j).toNat < 8

/-! ## One vector -/

section Tile

variable (d : Dev nD) (L : grid0.Coords)

abbrev VT (d : Dev nD) (L : grid0.Coords) : Thread nD τ := V d ((L 0).castLE hcore0) ((L 1).castLE hsub0)

/-- The first element of the task's range. -/
abbrev baseOf (L : grid0.Coords) : ℕ := 200000 * (L 1).val + 100000 * (L 0).val

omit [FloatOps F] in
/-- The check passes at labels below 8: the cell `16 l + lane` is below 128. -/
theorem chk_of_lt (l : Vec F S16 .i32) (h : ∀ x, (l x).toNat < 8) : k0_chk1 (k0_pay1 (F := F) lanes l) := by
  have hx : ∀ x : S16.Idx, (k0_pay1 (F := F) lanes l x).toNat < 128 := by
    intro x
    have hlane : lanes x = BitVec.ofNat 32 (x 0).val := iota_single_apply _ _ _ 0 _ x
    have hx0 : (x 0).val < 16 := (x 0).isLt
    have := h x
    show ((l x) * 16#32 + lanes x).toNat < 128
    rw [hlane, BitVec.toNat_add, BitVec.toNat_mul, BitVec.toNat_ofNat, BitVec.toNat_ofNat]
    omega
  exact ⟨fun a x => by fin_cases a; exact hx x, fun a x => by fin_cases a; exact hx x⟩

omit [FloatOps F] in
theorem vecIx_eq (k : Fin k0_t2_loop.trips) (x : S16.Idx) :
    (Rect.unit (s := S10000) (k0_off2 k) S16.size (k0_off2_inb k)).toLoadRect.idx x = chunkIx (16 * k.val + (x 0).val) := by
  have hb := k0_off2_inb k 0
  rw [k0_off2_eq] at hb
  have hx : (x 0).val < 16 := (x 0).isLt
  replace hb : 16 * k.val + 16 ≤ 10000 := hb
  funext a; apply Fin.ext
  obtain rfl : a = 0 := Subsingleton.elim _ _
  rw [LoadRect.idx_apply]
  show k0_off2 k 0 + 1 * (x 0).val = (16 * k.val + (x 0).val) % 10000
  rw [k0_off2_eq, Nat.mod_eq_of_lt (by omega)]
  simp

omit [FloatOps F] in
theorem read_pB (k : Fin k0_t2_loop.trips) (f : Vec F S10000 .f32) :
    (pB).view.readAt (Elt F) (Rect.unit (s := S10000) (k0_off2 k) S16.size (k0_off2_inb k)).toLoadRect f = vec f k.val := by
  funext x
  rw [View.readAt_apply, vecIx_eq]; rfl
omit [FloatOps F] in
theorem read_tB (k : Fin k0_t2_loop.trips) (f : Vec F S10000 .f32) :
    (tB).view.readAt (Elt F) (Rect.unit (s := S10000) (k0_off2 k) S16.size (k0_off2_inb k)).toLoadRect f = vec f k.val := by
  funext x
  rw [View.readAt_apply, vecIx_eq]; rfl
omit [FloatOps F] in
theorem read_lB (k : Fin k0_t2_loop.trips) (f : Vec F S10000 .i32) :
    (lB).view.readAt (Elt F) (Rect.unit (s := S10000) (k0_off2 k) S16.size (k0_off2_inb k)).toLoadRect f = vec f k.val := by
  funext x
  rw [View.readAt_apply, vecIx_eq]; rfl

omit [FloatOps F] in
theorem pts_sA (f : Vec F S128 .f32) :
    (((sA).access (.whole S128)).loc (VT d L) ↦[((sA).access (.whole S128)).set]{fullShare} f : sProp 𝕄) = (sA).view.loc (VT d L) ↦{fullShare} f :=
  congrArg (fun S => ((sA).view.loc (VT d L) ↦[S]{fullShare} f : sProp 𝕄)) (Memref.set_access_whole cc0_scratch3)
omit [FloatOps F] in
theorem pts_cA (f : Vec F S128 .f32) :
    (((cA).access (.whole S128)).loc (VT d L) ↦[((cA).access (.whole S128)).set]{fullShare} f : sProp 𝕄) = (cA).view.loc (VT d L) ↦{fullShare} f :=
  congrArg (fun S => ((cA).view.loc (VT d L) ↦[S]{fullShare} f : sProp 𝕄)) (Memref.set_access_whole cc0_scratch4)

/-- The inner loop's invariant, after `k` vectors of the chunk `p`, `t`, `l` begun from the tables `s` and `c`. -/
def invV (p t : Vec F S10000 .f32) (l : Vec F S10000 .i32) (s c : Vec F S128 .f32) (k : Nat) (_ : PUnit) : sProp 𝕄 :=
  iprop(((pB).view.loc (VT d L) ↦{fullShare} p) ∗ ((tB).view.loc (VT d L) ↦{fullShare} t) ∗ ((lB).view.loc (VT d L) ↦{fullShare} l)
    ∗ ((sA).view.loc (VT d L) ↦{fullShare} chunkSums p t l s k) ∗ ((cA).view.loc (VT d L) ↦{fullShare} chunkCnts l c k))

theorem trip (p t : Vec F S10000 .f32) (l : Vec F S10000 .i32) (s c : Vec F S128 .f32) (hl : ∀ j, (l j).toNat < 8) (k : Fin k0_t2_loop.trips) (u : Unit) :
    invV d L p t l s c k.val u
      ⊢ wp frame (wpE (defs₀ (F := F)) 𝒱₀ (VT d L) none) Set.univ
          (k0_t2_body L pV (Memref.isWhole_whole _) tV (Memref.isWhole_whole _) lV (Memref.isWhole_whole _) sV (Memref.isWhole_whole _) cV (Memref.isWhole_whole _)
            pB (Memref.isWhole_whole _) tB (Memref.isWhole_whole _) lB (Memref.isWhole_whole _) sA (Memref.isWhole_whole _) cA (Memref.isWhole_whole _)
            cc0_scoped0 cc0_scoped1 cc0_scoped2 cc0_scoped3 cc0_scoped4 (k0_pay4 (F := F)) lanes k u)
          fun u' => invV d L p t l s c (k.val + 1) u' := by
  have hchk : k0_chk1 (k0_pay1 (F := F) lanes (vec l k.val)) := chk_of_lt _ fun x => hl _
  unfold invV k0_t2_body
  iintro ⟨Hp, Ht, Hl, Hs, Hc⟩
  sl_exec
  unfold trip.sl.v36
  rw [read_pB, read_tB, read_lB, wp_assume_of _ _ _ _ hchk]
  ihave Hs' := (Entails.of_eq (pts_sA d L _).symm) $$ Hs
  iapply (SparseCore.wp_vectorStoreIdx 𝒱₀ (VT d L) none Set.univ (base := sA)) $$ Hs'
  rw [Memref.write_access_whole_univ (Elt F) cc0_scratch3, Memref.read_access_whole (Elt F) cc0_scratch3]
  iintro Hs'
  ihave Hs := (Entails.of_eq (pts_sA d L _)) $$ Hs'
  ihave Hc' := (Entails.of_eq (pts_cA d L _).symm) $$ Hc
  iapply (SparseCore.wp_vectorStoreIdx 𝒱₀ (VT d L) none Set.univ (base := cA)) $$ Hc'
  rw [Memref.write_access_whole_univ (Elt F) cc0_scratch4, Memref.read_access_whole (Elt F) cc0_scratch4]
  iintro Hc'
  ihave Hc := (Entails.of_eq (pts_cA d L _)) $$ Hc'
  sl_step
  rw [chunkSums, chunkCnts, addSums, addCnts, dif_pos hchk, dif_pos hchk]
  isplitl [Hp]; · iexact Hp
  isplitl [Ht]; · iexact Ht
  isplitl [Hl]; · iexact Hl
  isplitl [Hs]; · iexact Hs
  iexact Hc

/-! ## One chunk -/

omit [FloatOps F] in
theorem chunkIx_eq (k : Fin k0_t1_loop.trips) (x : S10000.Idx) :
    (Rect.unit (s := S3200000) (k0_off1 L k) S10000.size (k0_off1_inb L k)).emb x = argIx (baseOf L + 10000 * k.val + (x 0).val) := by
  have hb := k0_off1_inb L k 0
  rw [k0_off1_eq] at hb
  have hx : (x 0).val < 10000 := (x 0).isLt
  replace hb : 200000 * (L 1).val + 100000 * (L 0).val + 10000 * k.val + 10000 ≤ 3200000 := hb
  funext a; apply Fin.ext
  obtain rfl : a = 0 := Subsingleton.elim _ _
  show k0_off1 L k 0 + 1 * (x 0).val = (200000 * (L 1).val + 100000 * (L 0).val + 10000 * k.val + (x 0).val) % 3200000
  rw [k0_off1_eq, Nat.mod_eq_of_lt (by omega)]
  simp

omit [FloatOps F] in
theorem read_pV (k : Fin k0_t1_loop.trips) (A : Vec F S3200000 .f32) :
    ((pV).slice (Rect.unit (s := S3200000) (k0_off1 L k) S10000.size (k0_off1_inb L k)) (fun _ => rfl)).view.read (Elt F) A
      = chunk A (baseOf L + 10000 * k.val) := by
  funext x
  exact congrArg A (chunkIx_eq L k x)
omit [FloatOps F] in
theorem land_pB (f w : Vec F S10000 .f32) : View.write (Elt F) (pB).view f w Finset.univ = w :=
  View.write_whole_univ (Val := Elt F) cc0_scratch0 f w
omit [FloatOps F] in
theorem read_tV (k : Fin k0_t1_loop.trips) (A : Vec F S3200000 .f32) :
    ((tV).slice (Rect.unit (s := S3200000) (k0_off1 L k) S10000.size (k0_off1_inb L k)) (fun _ => rfl)).view.read (Elt F) A
      = chunk A (baseOf L + 10000 * k.val) := by
  funext x
  exact congrArg A (chunkIx_eq L k x)
omit [FloatOps F] in
theorem land_tB (f w : Vec F S10000 .f32) : View.write (Elt F) (tB).view f w Finset.univ = w :=
  View.write_whole_univ (Val := Elt F) cc0_scratch1 f w
omit [FloatOps F] in
theorem read_lV (k : Fin k0_t1_loop.trips) (A : Vec F S3200000 .i32) :
    ((lV).slice (Rect.unit (s := S3200000) (k0_off1 L k) S10000.size (k0_off1_inb L k)) (fun _ => rfl)).view.read (Elt F) A
      = chunk A (baseOf L + 10000 * k.val) := by
  funext x
  exact congrArg A (chunkIx_eq L k x)
omit [FloatOps F] in
theorem land_lB (f w : Vec F S10000 .i32) : View.write (Elt F) (lB).view f w Finset.univ = w :=
  View.write_whole_univ (Val := Elt F) cc0_scratch2 f w

/-- The outer loop's invariant, after `k` chunks of the arguments `A`, `B`, `C`: the arguments' read shares, the chunk buffers with anything in them,
    the tables so far, the copies' semaphores at zero. -/
def invC (q : PosShare TreeShare) (O : CellTallies nD τ sig (HIx 1)) (W : Waits sig (HIx 1)) (A B : Vec F S3200000 .f32) (C : Vec F S3200000 .i32) (k : Nat) (_ : PUnit) : sProp 𝕄 :=
  iprop(Transfers.MayWaits (VT d L) (default : HIx 1) O
    ∗ ((pV).view.loc (VT d L) ↦{q} A) ∗ ((tV).view.loc (VT d L) ↦{q} B) ∗ ((lV).view.loc (VT d L) ↦{q} C)
    ∗ (∃ f, (pB).view.loc (VT d L) ↦{fullShare} f) ∗ (∃ f, (tB).view.loc (VT d L) ↦{fullShare} f) ∗ (∃ f, (lB).view.loc (VT d L) ↦{fullShare} f)
    ∗ ((sA).view.loc (VT d L) ↦{fullShare} sums A B C (baseOf L) k) ∗ ((cA).view.loc (VT d L) ↦{fullShare} cnts C (baseOf L) k)
    ∗ semVal (VT d L, SemLoc.dma cc0_scoped0.sem) 0 ∗ semVal (VT d L, SemLoc.dma cc0_scoped1.sem) 0 ∗ semVal (VT d L, SemLoc.dma cc0_scoped2.sem) 0
    ∗ ∃ W', ⌜∀ p ∈ W', p ∈ W ∨ p.2 = none⌝ ∗ owes (VT d L) O W')

theorem tripC (q : PosShare TreeShare) (O : CellTallies nD τ sig (HIx 1)) (W : Waits sig (HIx 1)) (A B : Vec F S3200000 .f32) (C : Vec F S3200000 .i32)
    (hC : ∀ j, (C j).toNat < 8) (k : Fin k0_t1_loop.trips) (u : Unit) :
    invC d L q O W A B C k.val u
      ⊢ wp frame (wpE (defs₀ (F := F)) 𝒱₀ (VT d L) none) Set.univ
          (k0_t1_body L pV (Memref.isWhole_whole _) tV (Memref.isWhole_whole _) lV (Memref.isWhole_whole _) sV (Memref.isWhole_whole _) cV (Memref.isWhole_whole _)
            pB (Memref.isWhole_whole _) tB (Memref.isWhole_whole _) lB (Memref.isWhole_whole _) sA (Memref.isWhole_whole _) cA (Memref.isWhole_whole _)
            cc0_scoped0 cc0_scoped1 cc0_scoped2 cc0_scoped3 cc0_scoped4 (k0_pay4 (F := F)) lanes k u)
          fun u' => invC d L q O W A B C (k.val + 1) u' := by
  unfold invC k0_t1_body
  iintro ⟨Hmw, HA, HB, HC, ⟨%f0, Hp⟩, ⟨%f1, Ht⟩, ⟨%f2, Hl⟩, Hs, Hc, H0, H1, H2, ⟨%W', %hW', HO⟩⟩
  sl_exec (disch := exact View.amount_pos _ _ (show 0 < S10000.numel by decide))
  sl_for (invV d L (chunk A (baseOf L + 10000 * k.val)) (chunk B (baseOf L + 10000 * k.val)) (chunk C (baseOf L + 10000 * k.val))
    (sums A B C (baseOf L) k.val) (cnts C (baseOf L) k.val)) $$ [Hp Ht Hl Hs Hc]
  case region => intro j _; exact trip d L _ _ _ _ _ (fun _ => hC _) j _
  · unfold invV
    have e0 : tripC.sl.dma0 L A k = chunk A (baseOf L + 10000 * k.val) := by
      delta tripC.sl.dma0
      exact read_pV L k A
    have e1 : tripC.sl.dma0_1 L B k = chunk B (baseOf L + 10000 * k.val) := by
      delta tripC.sl.dma0_1
      exact read_tV L k B
    have e2 : tripC.sl.dma0_2 L C k = chunk C (baseOf L + 10000 * k.val) := by
      delta tripC.sl.dma0_2
      exact read_lV L k C
    rw [e0, e1, e2, land_pB, land_tB, land_lB, chunkSums, chunkCnts]
    sl_close
  iintro %_ HI
  unfold invV
  icases HI with ⟨Hp, Ht, Hl, Hs, Hc⟩
  have hW'' : ∀ p ∈ insert (SemLoc.dma cc0_scoped2.sem, (default : HIx 1)) (insert (SemLoc.dma cc0_scoped1.sem, default) (insert (SemLoc.dma cc0_scoped0.sem, default) W')),
      p ∈ W ∨ p.2 = none := by
    intro p hp
    simp only [Finset.mem_insert] at hp
    rcases hp with rfl | rfl | rfl | hp
    · exact .inr rfl
    · exact .inr rfl
    · exact .inr rfl
    · exact hW' p hp
  rw [show Scf.trips k0_t2_loop.lb k0_t2_loop.ub k0_t2_loop.st = 625 by decide]
  sl_step
  rw [sums, cnts]
  sl_close

/-! ## The task -/

/-- The task's row of a result, as the copies out name it. -/
abbrev rowR (L : grid0.Coords) : Rect S32x128 := Rect.unit (s := S32x128) (k0_off3 L) S1x128.size (k0_off3_inb L)
abbrev sRow (L : grid0.Coords) : Memref sig Kind.scVector Space.hbm S128 EltTy.f32 := ((sV).slice (rowR L) (fun _ => rfl)).squeeze S128 squeezes_S1x128_S128
abbrev cRow (L : grid0.Coords) : Memref sig Kind.scVector Space.hbm S128 EltTy.f32 := ((cV).slice (rowR L) (fun _ => rfl)).squeeze S128 squeezes_S1x128_S128

/-- The elements of a view after one whole write of `w`, as the elements of any contents that read `w` through it. -/
theorem pts_written {c : Thread nD τ} {sp : Space} {s : Shape} {e : EltTy} (v : View sig c.2.kind sp s e) (q : PosShare TreeShare) (f G : Buf (Elt F) (v.loc c))
    (w : s.Idx → Elt F e) (hG : ∀ x, v.read (Elt F) G x = w x) :
    (v.loc c ↦[v.set]{q} v.writes (Elt F) f [⟨Rect.whole s, w⟩] : sProp 𝕄) = v.loc c ↦[v.set]{q} G :=
  pointsTo_congr fun i hi => by
    obtain ⟨x, -, rfl⟩ := Finset.mem_map.mp hi
    have h : v.read (Elt F) (v.writes (Elt F) f [⟨Rect.whole s, w⟩]) x = v.read (Elt F) G x := by
      have := View.read_writes_cons_emb v f (Rect.whole s) w [] x
      rw [Rect.emb_whole_apply] at this
      rw [this, hG]
    rw [View.read_apply, View.read_apply] at h
    exact cast_inj _ |>.mp h

/-- The eight stores of zeros fill a table. -/
theorem zeros_sA (f : Vec F S128 .f32) (Ls : List (View.Piece (Elt F) S128 .f32)) (h0 : ∀ p ∈ Ls, ∀ x, p.2 x = Scalar.ofBits .f32 0x00000000#32)
    (ht : View.Piece.tiled Ls ![16] = true) : (sA).view.writes (Elt F) f Ls = zeros :=
  funext fun y => View.read_writes_apply_of_pieces (sA).view f zeros Ls h0 y (View.cover_of_tiled Ls ![16] ht y)
theorem zeros_cA (f : Vec F S128 .f32) (Ls : List (View.Piece (Elt F) S128 .f32)) (h0 : ∀ p ∈ Ls, ∀ x, p.2 x = Scalar.ofBits .f32 0x00000000#32)
    (ht : View.Piece.tiled Ls ![16] = true) : (cA).view.writes (Elt F) f Ls = zeros :=
  funext fun y => View.read_writes_apply_of_pieces (cA).view f zeros Ls h0 y (View.cover_of_tiled Ls ![16] ht y)

/-- The task's program: from read shares `q` of the three arguments `A`, `B`, `C`, its row of each result, its buffers and its semaphores at zero, it
    ends with its rows at the tables its range makes. -/
theorem tile_run (q : PosShare TreeShare) (O : CellTallies nD τ sig (HIx 1)) (W : Waits sig (HIx 1)) (A B : Vec F S3200000 .f32) (C : Vec F S3200000 .i32)
    (hC : ∀ j, (C j).toNat < 8) (f0 f1 : Vec F S10000 .f32) (f2 : Vec F S10000 .i32) (f3 f4 : Vec F S128 .f32) (g0 g1 G0 G1 : Vec F S32x128 .f32)
    (hG0 : ∀ x, (sRow L).view.read (Elt F) G0 x = sums A B C (baseOf L) 10 x) (hG1 : ∀ x, (cRow L).view.read (Elt F) G1 x = cnts C (baseOf L) 10 x) :
    iprop(Transfers.MayWaits (Val := Elt F) (Name := ℕ) (U := UU) (Lvl := ℕ) (VT d L) (default : HIx 1) O
      ∗ ((pV).view.loc (VT d L) ↦{q} A) ∗ ((tV).view.loc (VT d L) ↦{q} B) ∗ ((lV).view.loc (VT d L) ↦{q} C)
      ∗ ((sRow L).view.loc (VT d L) ↦[(sRow L).view.set]{fullShare} g0) ∗ ((cRow L).view.loc (VT d L) ↦[(cRow L).view.set]{fullShare} g1)
      ∗ ((pB).view.loc (VT d L) ↦{fullShare} f0) ∗ ((tB).view.loc (VT d L) ↦{fullShare} f1) ∗ ((lB).view.loc (VT d L) ↦{fullShare} f2)
      ∗ ((sA).view.loc (VT d L) ↦{fullShare} f3) ∗ ((cA).view.loc (VT d L) ↦{fullShare} f4)
      ∗ semVal (VT d L, SemLoc.dma cc0_scoped0.sem) 0 ∗ semVal (VT d L, SemLoc.dma cc0_scoped1.sem) 0 ∗ semVal (VT d L, SemLoc.dma cc0_scoped2.sem) 0
      ∗ semVal (VT d L, SemLoc.dma cc0_scoped3.sem) 0 ∗ semVal (VT d L, SemLoc.dma cc0_scoped4.sem) 0
      ∗ owes (VT d L) O W)
      ⊢ wp frame (wpE (defs₀ (F := F)) 𝒱₀ (VT d L) none) Set.univ
          (cc0__sc_partials L pV (Memref.isWhole_whole _) tV (Memref.isWhole_whole _) lV (Memref.isWhole_whole _) sV (Memref.isWhole_whole _) cV (Memref.isWhole_whole _)
            pB (Memref.isWhole_whole _) tB (Memref.isWhole_whole _) lB (Memref.isWhole_whole _) sA (Memref.isWhole_whole _) cA (Memref.isWhole_whole _)
            cc0_scoped0 cc0_scoped1 cc0_scoped2 cc0_scoped3 cc0_scoped4)
          fun _ => iprop(((pV).view.loc (VT d L) ↦{q} A) ∗ ((tV).view.loc (VT d L) ↦{q} B) ∗ ((lV).view.loc (VT d L) ↦{q} C)
            ∗ ((sRow L).view.loc (VT d L) ↦[(sRow L).view.set]{fullShare} G0)
            ∗ ((cRow L).view.loc (VT d L) ↦[(cRow L).view.set]{fullShare} G1)
            ∗ (∃ f, (pB).view.loc (VT d L) ↦{fullShare} f) ∗ (∃ f, (tB).view.loc (VT d L) ↦{fullShare} f) ∗ (∃ f, (lB).view.loc (VT d L) ↦{fullShare} f)
            ∗ (∃ f, (sA).view.loc (VT d L) ↦{fullShare} f) ∗ (∃ f, (cA).view.loc (VT d L) ↦{fullShare} f)
            ∗ semVal (VT d L, SemLoc.dma cc0_scoped0.sem) 0 ∗ semVal (VT d L, SemLoc.dma cc0_scoped1.sem) 0 ∗ semVal (VT d L, SemLoc.dma cc0_scoped2.sem) 0
            ∗ semVal (VT d L, SemLoc.dma cc0_scoped3.sem) 0 ∗ semVal (VT d L, SemLoc.dma cc0_scoped4.sem) 0
            ∗ ∃ W', ⌜∀ p ∈ W', p ∈ W ∨ p.2 = none⌝ ∗ owes (VT d L) O W') := by
  rw [cc0__sc_partials_eq_skeleton]
  unfold cc0__sc_partials_skel
  rw [k0_part1_eq_skeleton]
  unfold k0_part1_skel
  iintro ⟨Hmw, HA, HB, HC, Hg0, Hg1, Hp, Ht, Hl, Hs, Hc, H0, H1, H2, H3, H4, HO⟩
  sl_exec
  sl_for (invC d L q O W A B C) $$ [Hmw HA HB HC Hp Ht Hl Hs Hc H0 H1 H2 HO]
  case region => intro k _; exact tripC d L q O W A B C hC k _
  · unfold invC
    rw [zeros_sA _ tile_run.sl.Hs_8 (by delta tile_run.sl.Hs_8; intro p hp x; simp only [List.mem_cons, List.not_mem_nil, or_false] at hp; rcases hp with rfl | rfl | rfl | rfl | rfl | rfl | rfl | rfl <;> rfl) rfl,
      zeros_cA _ tile_run.sl.Hc_8 (by delta tile_run.sl.Hc_8; intro p hp x; simp only [List.mem_cons, List.not_mem_nil, or_false] at hp; rcases hp with rfl | rfl | rfl | rfl | rfl | rfl | rfl | rfl <;> rfl) rfl]
    rw [sums, cnts]
    have hW0 : ∀ p ∈ W, p ∈ W ∨ p.2 = (none : HIx 1) := fun p hp => .inl hp
    sl_close
  iintro %_ HI
  unfold invC
  icases HI with ⟨Hmw, HA, HB, HC, ⟨%f0', Hp⟩, ⟨%f1', Ht⟩, ⟨%f2', Hl⟩, Hs, Hc, H0, H1, H2, ⟨%W', %hW', HO⟩⟩
  rw [show Scf.trips k0_t1_loop.lb k0_t1_loop.ub k0_t1_loop.st = 10 by decide]
  sl_exec
  have hW'' : ∀ p ∈ insert (SemLoc.dma cc0_scoped4.sem, (default : HIx 1)) (insert (SemLoc.dma cc0_scoped3.sem, default) W'), p ∈ W ∨ p.2 = none := by
    intro p hp
    simp only [Finset.mem_insert] at hp
    rcases hp with rfl | rfl | hp
    · exact .inr rfl
    · exact .inr rfl
    · exact hW' p hp
  have e0 : tile_run.sl.dma0 L A B C = sums A B C (baseOf L) 10 := rfl
  have e1 : tile_run.sl.dma0_1 L C = cnts C (baseOf L) 10 := rfl
  rw [e0, e1]
  ihave Hg0' := (Entails.of_eq (pts_written (c := VT d L) (sRow L).view fullShare g0 G0 _ hG0)) $$ Hg0
  ihave Hg1' := (Entails.of_eq (pts_written (c := VT d L) (cRow L).view fullShare g1 G1 _ hG1)) $$ Hg1
  sl_step
  sl_close

/-! ## The tables of all the tasks -/

/-- A lane number as an index of a table. -/
def laneIx (n : Fin 128) : S128.Idx := fun a => Fin.cast (by fin_cases a; rfl) n

/-- The first result: row `w` is the first table of the task at base `100000 w`. -/
def partS (A B : Vec F S3200000 .f32) (C : Vec F S3200000 .i32) : Vec F S32x128 .f32 := fun j => sums A B C (100000 * (j 0).val) 10 (laneIx (j 1))

/-- The second result: row `w` is the second table of the task at base `100000 w`. -/
def partC (C : Vec F S3200000 .i32) : Vec F S32x128 .f32 := fun j => cnts C (100000 * (j 0).val) 10 (laneIx (j 1))

omit [FloatOps F] in
theorem rowR_emb (x : S128.Idx) :
    ((rowR L).emb (Shape.reshapeEquiv squeezes_S1x128_S128.numel_eq x) 0).val = 2 * (L 1).val + (L 0).val
      ∧ ((rowR L).emb (Shape.reshapeEquiv squeezes_S1x128_S128.numel_eq x) 1).val = (x 0).val := by
  have e : Shape.reshapeEquiv squeezes_S1x128_S128.numel_eq x = (Fin.cons ⟨0, Nat.one_pos⟩ x : S1x128.Idx) := Shape.reshapeEquiv_cons_one (d := ![128]) _ x
  rw [e]
  constructor
  · show k0_off3 L 0 + 1 * 0 = _
    rw [k0_off3_eq]; rfl
  · show k0_off3 L 1 + 1 * (x 0).val = _
    rw [k0_off3_eq]; show 0 + 1 * (x 0).val = _; omega

theorem read_partS (A B : Vec F S3200000 .f32) (C : Vec F S3200000 .i32) (x : S128.Idx) :
    (sRow L).view.read (Elt F) (partS A B C) x = sums A B C (baseOf L) 10 x := by
  obtain ⟨h0, h1⟩ := rowR_emb L x
  show partS A B C ((rowR L).emb (Shape.reshapeEquiv squeezes_S1x128_S128.numel_eq x)) = _
  unfold partS
  rw [h0, show 100000 * (2 * (L 1).val + (L 0).val) = baseOf L by unfold baseOf; ring]
  congr 1
  funext a; obtain rfl : a = 0 := Subsingleton.elim _ _
  exact Fin.ext h1

theorem read_partC (C : Vec F S3200000 .i32) (x : S128.Idx) : (cRow L).view.read (Elt F) (partC C) x = cnts C (baseOf L) 10 x := by
  obtain ⟨h0, h1⟩ := rowR_emb L x
  show partC C ((rowR L).emb (Shape.reshapeEquiv squeezes_S1x128_S128.numel_eq x)) = _
  unfold partC
  rw [h0, show 100000 * (2 * (L 1).val + (L 0).val) = baseOf L by unfold baseOf; ring]
  congr 1
  funext a; obtain rfl : a = 0 := Subsingleton.elim _ _
  exact Fin.ext h1

end Tile

end Cert.Proof.KernelIdeal

end
-- ==== Proof.KernelIdealLaunch.lean ====
/-
  The launch of the first call: what each task is lent of the arrays, each task's row of the results, and the launch theorem's obligations for the tasks.
-/
module

public import proofs.«01_k».proof.Proof.KernelIdealTask

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

local notation "pV" => (Memref.whole Cert.KernelIdeal.main_arg0_scv : Memref Cert.KernelIdeal.sig Kind.scVector Space.hbm Cert.KernelIdeal.S3200000 EltTy.f32)
local notation "tV" => (Memref.whole Cert.KernelIdeal.main_arg1_scv : Memref Cert.KernelIdeal.sig Kind.scVector Space.hbm Cert.KernelIdeal.S3200000 EltTy.f32)
local notation "lV" => (Memref.whole Cert.KernelIdeal.main_arg2_scv : Memref Cert.KernelIdeal.sig Kind.scVector Space.hbm Cert.KernelIdeal.S3200000 EltTy.i32)
local notation "sV" => (Memref.whole Cert.KernelIdeal.main_v0_0_scv : Memref Cert.KernelIdeal.sig Kind.scVector Space.hbm Cert.KernelIdeal.S32x128 EltTy.f32)
local notation "cV" => (Memref.whole Cert.KernelIdeal.main_v0_1_scv : Memref Cert.KernelIdeal.sig Kind.scVector Space.hbm Cert.KernelIdeal.S32x128 EltTy.f32)
local notation "pB" => (Memref.whole Cert.KernelIdeal.cc0_scratch0 : Memref Cert.KernelIdeal.sig Kind.scVector Space.vmem Cert.KernelIdeal.S10000 EltTy.f32)
local notation "tB" => (Memref.whole Cert.KernelIdeal.cc0_scratch1 : Memref Cert.KernelIdeal.sig Kind.scVector Space.vmem Cert.KernelIdeal.S10000 EltTy.f32)
local notation "lB" => (Memref.whole Cert.KernelIdeal.cc0_scratch2 : Memref Cert.KernelIdeal.sig Kind.scVector Space.vmem Cert.KernelIdeal.S10000 EltTy.i32)
local notation "sA" => (Memref.whole Cert.KernelIdeal.cc0_scratch3 : Memref Cert.KernelIdeal.sig Kind.scVector Space.vmem Cert.KernelIdeal.S128 EltTy.f32)
local notation "cA" => (Memref.whole Cert.KernelIdeal.cc0_scratch4 : Memref Cert.KernelIdeal.sig Kind.scVector Space.vmem Cert.KernelIdeal.S128 EltTy.f32)

/-! ## The rows -/

theorem hdiv : 32 ∣ S32x128.size 0 := ⟨1, rfl⟩
/-- Row `w` of the (32, 128) results: one task's. -/
abbrev row (w : Fin 32) : Rect S32x128 := Rect.part (s := S32x128) (a₀ := 0) hdiv w
abbrev rowSet (w : Fin 32) : Finset S32x128.Idx := (row w).set

/-- The row of the task on SparseCore `c`, vector subcore `i`. -/
def wOf (c : Fin 2) (i : Fin 16) : Fin 32 := ⟨2 * i.val + c.val, by omega⟩

theorem rows_disjoint : ∀ i ∈ (Finset.univ : Finset (Fin 32)), ∀ j ∈ (Finset.univ : Finset (Fin 32)), i ≠ j → Disjoint (rowSet i) (rowSet j) :=
  fun _ _ _ _ h => Rect.part_disjoint hdiv h
theorem rows_cover : (Finset.univ : Finset (Fin 32)).biUnion rowSet = Finset.univ := Rect.biUnion_part hdiv

/-! ## What the handshakes carry -/

/-- The share of an argument that row `w`'s task reads it by. -/
abbrev qT (w : Fin 32) : PosShare TreeShare := Transfers.shareTok fullShare 32 w
/-- The share of an argument that stays with the TensorCore meanwhile. -/
abbrev qR : PosShare TreeShare := Transfers.shareDrop fullShare 32

/-- The first result's contents after the call: row `w` the table of sums of range `w`. -/
abbrev valS (d : Dev nD) : Vec F S32x128 .f32 := partS (m (pLoc d)) (m (tLoc d)) (m (lLoc d))
/-- The second result's: row `w` the table of counts of range `w`. -/
abbrev valC (d : Dev nD) : Vec F S32x128 .f32 := partC (m (lLoc d))

/-- Read shares of the three arguments. -/
abbrev argPts (d : Dev nD) (q : PosShare TreeShare) : sProp 𝕄 :=
  iprop((pLoc d ↦{q} m (pLoc d)) ∗ (tLoc d ↦{q} m (tLoc d)) ∗ (lLoc d ↦{q} m (lLoc d)))
/-- What row `w`'s task takes and brings back: its shares of the arguments, its rows of the results at `f` and `g`. -/
abbrev taskPts (d : Dev nD) (f : Buf (Elt F) (sLoc d)) (g : Buf (Elt F) (cLoc d)) (w : Fin 32) : sProp 𝕄 :=
  iprop(argPts m d (qT w) ∗ (sLoc d ↦[rowSet w]{fullShare} f) ∗ (cLoc d ↦[rowSet w]{fullShare} g))

/-- The one call takes, per task, shares of the arguments and the task's rows of the results, and brings them back with the rows at the tables;
    nothing of the kernel's own is dealt, and no tile owes anything but its completion. -/
def P : (K (F := F)).Pay (nD := nD) (Val := Elt F) (Name := ℕ) (U := UU) where
  st := fun q d c => match q with
    | 0 => bigSep Finset.univ fun i : Fin 16 => taskPts m d (m (sLoc d)) (m (cLoc d)) (wOf c i)
  dn := fun q d c => match q with
    | 0 => bigSep Finset.univ fun i : Fin 16 => taskPts m d (valS m d) (valC m d) (wOf c i)
  go := fun q d c i => match q with
    | 0 => taskPts m d (m (sLoc d)) (m (cLoc d)) (wOf c i)
  td := fun q d c i => match q with
    | 0 => taskPts m d (valS m d) (valC m d) (wOf c i)
  x := fun _ _ => iprop(emp)

instance P_storable : (P (F := F) m).IsStorable where
  st q d c := match q with
    | 0 => (inferInstance : BI.Storable (upEmb : UEmb _ 𝕄) (bigSep Finset.univ fun i : Fin 16 => taskPts m d (m (sLoc d)) (m (cLoc d)) (wOf c i)))
  dn q d c := match q with
    | 0 => (inferInstance : BI.Storable (upEmb : UEmb _ 𝕄) (bigSep Finset.univ fun i : Fin 16 => taskPts m d (valS m d) (valC m d) (wOf c i)))
  go q d c i := match q with
    | 0 => (inferInstance : BI.Storable (upEmb : UEmb _ 𝕄) (taskPts m d (m (sLoc d)) (m (cLoc d)) (wOf c i)))
  td q d c i := match q with
    | 0 => (inferInstance : BI.Storable (upEmb : UEmb _ 𝕄) (taskPts m d (valS m d) (valC m d) (wOf c i)))

/-! ## The task -/

section Tile

variable (d : Dev nD) (L : grid0.Coords)

/-- The task's row. -/
abbrev wL (L : grid0.Coords) : Fin 32 := wOf (L 0) (L 1)

theorem rowR_eq : rowR L = row (wL L) := by
  unfold rowR row Rect.part Rect.block
  congr 1 <;> funext a
  · rw [k0_off3_eq]
    match a with
    | 0 => simp [Shape.partIx, Shape.partSize, wL, wOf]
    | 1 => simp [Shape.partIx, Shape.partSize]
  · match a with
    | 0 => simp [Shape.partSize]
    | 1 => simp [Shape.partSize]

theorem set_sRow : (sRow L).view.set = rowSet (wL L) := by
  show (((sV).view.slice (rowR L)).reshape S128 squeezes_S1x128_S128.numel_eq).set = _
  rw [View.set_reshape, View.set_slice]
  exact Finset.map_refl.trans (rowR_eq L ▸ rfl)
theorem set_cRow : (cRow L).view.set = rowSet (wL L) := by
  show (((cV).view.slice (rowR L)).reshape S128 squeezes_S1x128_S128.numel_eq).set = _
  rw [View.set_reshape, View.set_slice]
  exact Finset.map_refl.trans (rowR_eq L ▸ rfl)

omit [FloatOps F] in
theorem pts_sRow (f : Buf (Elt F) (sLoc d)) :
    ((sRow L).view.loc (VT d L) ↦[(sRow L).view.set]{fullShare} f : sProp 𝕄) = sLoc d ↦[rowSet (wL L)]{fullShare} f := by
  rw [set_sRow]
omit [FloatOps F] in
theorem pts_cRow (f : Buf (Elt F) (cLoc d)) :
    ((cRow L).view.loc (VT d L) ↦[(cRow L).view.set]{fullShare} f : sProp 𝕄) = cLoc d ↦[rowSet (wL L)]{fullShare} f := by
  rw [set_cRow]

abbrev cell0 : GSem nD τ sig := (VT d L, .dma cc0_scoped0.sem)
abbrev cell1 : GSem nD τ sig := (VT d L, .dma cc0_scoped1.sem)
abbrev cell2 : GSem nD τ sig := (VT d L, .dma cc0_scoped2.sem)
abbrev cell3 : GSem nD τ sig := (VT d L, .dma cc0_scoped3.sem)
abbrev cell4 : GSem nD τ sig := (VT d L, .dma cc0_scoped4.sem)

theorem cell_ne {a b : SemLoc sig} (h : a ≠ b) : ((VT d L, a) : GSem nD τ sig) ≠ (VT d L, b) := fun e => h (congrArg Prod.snd e)

theorem mem_cells (s : SemLoc sig) (h : s.isScoped .scVector = true) : ((VT d L, s) : GSem nD τ sig) ∈ ownCells (VT d L) :=
  mem_ownCells.mpr ⟨rfl, h⟩

omit [FloatOps F] in
/-- The tile's own semaphores are the five copies', and the rest. -/
theorem ownSems0_V :
    (ownSems0 (VT d L) : sProp 𝕄)
      = iprop(semVal (cell0 d L) 0 ∗ semVal (cell1 d L) 0 ∗ semVal (cell2 d L) 0 ∗ semVal (cell3 d L) 0 ∗ semVal (cell4 d L) 0
          ∗ bigSep ((((((ownCells (VT d L)).erase (cell0 d L)).erase (cell1 d L)).erase (cell2 d L)).erase (cell3 d L)).erase (cell4 d L)) fun g => semVal g 0) := by
  unfold SparseCore.Cfg.ownSems0
  have n10 := cell_ne d L (show (SemLoc.dma cc0_scoped1.sem : SemLoc sig) ≠ .dma cc0_scoped0.sem by decide)
  have n20 := cell_ne d L (show (SemLoc.dma cc0_scoped2.sem : SemLoc sig) ≠ .dma cc0_scoped0.sem by decide)
  have n21 := cell_ne d L (show (SemLoc.dma cc0_scoped2.sem : SemLoc sig) ≠ .dma cc0_scoped1.sem by decide)
  have n30 := cell_ne d L (show (SemLoc.dma cc0_scoped3.sem : SemLoc sig) ≠ .dma cc0_scoped0.sem by decide)
  have n31 := cell_ne d L (show (SemLoc.dma cc0_scoped3.sem : SemLoc sig) ≠ .dma cc0_scoped1.sem by decide)
  have n32 := cell_ne d L (show (SemLoc.dma cc0_scoped3.sem : SemLoc sig) ≠ .dma cc0_scoped2.sem by decide)
  have n40 := cell_ne d L (show (SemLoc.dma cc0_scoped4.sem : SemLoc sig) ≠ .dma cc0_scoped0.sem by decide)
  have n41 := cell_ne d L (show (SemLoc.dma cc0_scoped4.sem : SemLoc sig) ≠ .dma cc0_scoped1.sem by decide)
  have n42 := cell_ne d L (show (SemLoc.dma cc0_scoped4.sem : SemLoc sig) ≠ .dma cc0_scoped2.sem by decide)
  have n43 := cell_ne d L (show (SemLoc.dma cc0_scoped4.sem : SemLoc sig) ≠ .dma cc0_scoped3.sem by decide)
  have c0 := mem_cells d L (.dma cc0_scoped0.sem) (by decide)
  have c1 := mem_cells d L (.dma cc0_scoped1.sem) (by decide)
  have c2 := mem_cells d L (.dma cc0_scoped2.sem) (by decide)
  have c3 := mem_cells d L (.dma cc0_scoped3.sem) (by decide)
  have c4 := mem_cells d L (.dma cc0_scoped4.sem) (by decide)
  rw [SparseCore.bigSep_erase' c0, SparseCore.bigSep_erase' (Finset.mem_erase.mpr ⟨n10, c1⟩),
    SparseCore.bigSep_erase' (Finset.mem_erase.mpr ⟨n21, Finset.mem_erase.mpr ⟨n20, c2⟩⟩),
    SparseCore.bigSep_erase' (Finset.mem_erase.mpr ⟨n32, Finset.mem_erase.mpr ⟨n31, Finset.mem_erase.mpr ⟨n30, c3⟩⟩⟩),
    SparseCore.bigSep_erase' (Finset.mem_erase.mpr ⟨n43, Finset.mem_erase.mpr ⟨n42, Finset.mem_erase.mpr ⟨n41, Finset.mem_erase.mpr ⟨n40, c4⟩⟩⟩⟩)]

/-- One of the tile's scratch buffers, as a buffer of the device. -/
abbrev bufV (b : Ref sig .scVector) : DevRef τ sig := (Proc.scVector ((L 0).castLE hcore0) ((L 1).castLE hsub0)).devRef b

theorem buf_ne {a b : Ref sig .scVector} (h : a ≠ b) : bufV L a ≠ bufV L b := fun e => h (Proc.devRef_injective _ e)

omit [FloatOps F] in
/-- The tile's own buffers are the three chunk buffers and the two tables, each at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f)
          ∗ bigSep ((((((ownRefs (τ := τ) (.scVector ((L 0).castLE hcore0) ((L 1).castLE hsub0))).erase (bufV L cc0_scratch0)).erase (bufV L cc0_scratch1)).erase
              (bufV L cc0_scratch2)).erase (bufV L cc0_scratch3)).erase (bufV L cc0_scratch4))
              fun b => iprop(∃ f, ((d, b) : Loc nD τ sig) ↦{fullShare} f)) := by
  unfold SparseCore.Cfg.ownBufs
  have n10 := buf_ne L (show (cc0_scratch1 : Ref sig .scVector) ≠ cc0_scratch0 by decide)
  have n20 := buf_ne L (show (cc0_scratch2 : Ref sig .scVector) ≠ cc0_scratch0 by decide)
  have n21 := buf_ne L (show (cc0_scratch2 : Ref sig .scVector) ≠ cc0_scratch1 by decide)
  have n30 := buf_ne L (show (cc0_scratch3 : Ref sig .scVector) ≠ cc0_scratch0 by decide)
  have n31 := buf_ne L (show (cc0_scratch3 : Ref sig .scVector) ≠ cc0_scratch1 by decide)
  have n32 := buf_ne L (show (cc0_scratch3 : Ref sig .scVector) ≠ cc0_scratch2 by decide)
  have n40 := buf_ne L (show (cc0_scratch4 : Ref sig .scVector) ≠ cc0_scratch0 by decide)
  have n41 := buf_ne L (show (cc0_scratch4 : Ref sig .scVector) ≠ cc0_scratch1 by decide)
  have n42 := buf_ne L (show (cc0_scratch4 : Ref sig .scVector) ≠ cc0_scratch2 by decide)
  have n43 := buf_ne L (show (cc0_scratch4 : Ref sig .scVector) ≠ cc0_scratch3 by decide)
  have o0 := SparseCore.Cfg.mem_ownRefs_of_owner (p := Proc.scVector ((L 0).castLE hcore0) ((L 1).castLE hsub0)) (b := bufV L cc0_scratch0) rfl
  have o1 := SparseCore.Cfg.mem_ownRefs_of_owner (p := Proc.scVector ((L 0).castLE hcore0) ((L 1).castLE hsub0)) (b := bufV L cc0_scratch1) rfl
  have o2 := SparseCore.Cfg.mem_ownRefs_of_owner (p := Proc.scVector ((L 0).castLE hcore0) ((L 1).castLE hsub0)) (b := bufV L cc0_scratch2) rfl
  have o3 := SparseCore.Cfg.mem_ownRefs_of_owner (p := Proc.scVector ((L 0).castLE hcore0) ((L 1).castLE hsub0)) (b := bufV L cc0_scratch3) rfl
  have o4 := SparseCore.Cfg.mem_ownRefs_of_owner (p := Proc.scVector ((L 0).castLE hcore0) ((L 1).castLE hsub0)) (b := bufV L cc0_scratch4) rfl
  refine (SparseCore.bigSep_erase' o0).trans ?_
  rw [SparseCore.bigSep_erase' (Finset.mem_erase.mpr ⟨n10, o1⟩),
    SparseCore.bigSep_erase' (Finset.mem_erase.mpr ⟨n21, Finset.mem_erase.mpr ⟨n20, o2⟩⟩),
    SparseCore.bigSep_erase' (Finset.mem_erase.mpr ⟨n32, Finset.mem_erase.mpr ⟨n31, Finset.mem_erase.mpr ⟨n30, o3⟩⟩⟩),
    SparseCore.bigSep_erase' (Finset.mem_erase.mpr ⟨n43, Finset.mem_erase.mpr ⟨n42, Finset.mem_erase.mpr ⟨n41, Finset.mem_erase.mpr ⟨n40, o4⟩⟩⟩⟩)]

/-- The task on vector subcore `(L 0, L 1)` of device `d`: from its shares of the arguments and its rows of the results to its rows at its tables. -/
theorem tile_body (hm : PreOK m) (hF : (K (F := F)).Facts) (O : CellTallies nD τ sig (HIx 1)) (W : Waits sig (HIx 1)) (hO : ∀ g, O g none = 0) :
    iprop(levAts (K (F := F)).L (K (F := F)).lev ∗ emp
        ∗ taskPts m d (m (sLoc d)) (m (cLoc d)) (wL L)
        ∗ scopedBufs (VT d L) ∗ scopedSems0 (VT d L) ∗ owes (VT d L) O W)
      ⊢ wp frame (wpE (defs₀ (F := F)) 𝒱₀ (VT d L) none) Set.univ
          (cc0__sc_partials L pV (Memref.isWhole_whole _) tV (Memref.isWhole_whole _) lV (Memref.isWhole_whole _) sV (Memref.isWhole_whole _) cV (Memref.isWhole_whole _)
            pB (Memref.isWhole_whole _) tB (Memref.isWhole_whole _) lB (Memref.isWhole_whole _) sA (Memref.isWhole_whole _) cA (Memref.isWhole_whole _)
            cc0_scoped0 cc0_scoped1 cc0_scoped2 cc0_scoped3 cc0_scoped4)
          fun _ => iprop(taskPts m d (valS m d) (valC m d) (wL L)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d ((L 0).castLE hcore0) ((L 1).castLE hsub0), SparseCore.Cfg.scopedSems0_V (Val := Elt F) d ((L 0).castLE hcore0) ((L 1).castLE hsub0),
    ownSems0_V, ownBufs_V]
  iintro ⟨#Hlv, -, ⟨⟨Hp, Ht, Hl⟩, Hs, Hc⟩, ⟨⟨%f0, H0⟩, ⟨%f1, H1⟩, ⟨%f2, H2⟩, ⟨%f3, H3⟩, ⟨%f4, H4⟩, Hbufs⟩, ⟨Hc0, Hc1, Hc2, Hc3, Hc4, Hsems⟩, HO⟩
  ihave Hmw := (show levAts (K (F := F)).L (K (F := F)).lev ⊢ Transfers.MayWaits (VT d L) (default : HIx 1) O from
    (K (F := F)).mayWaits_none (thr := VT d L) hO) $$ Hlv
  ihave Hs' := (Entails.of_eq (pts_sRow (F := F) d L _).symm) $$ Hs
  ihave Hc' := (Entails.of_eq (pts_cRow (F := F) d L _).symm) $$ Hc
  iapply (wp_wand_r Idealize.ShloMosaic.frame (wpE (defs₀ (F := F)) 𝒱₀ (VT d L) none) Set.univ)
  isplitl [Hmw Hp Ht Hl Hs' Hc' H0 H1 H2 H3 H4 Hc0 Hc1 Hc2 Hc3 Hc4 HO]
  · iapply (tile_run d L (qT (wL L)) O W (m (pLoc d)) (m (tLoc d)) (m (lLoc d)) (hm d) f0 f1 f2 f3 f4 (m (sLoc d)) (m (cLoc d)) (valS m d) (valC m d)
      (read_partS L _ _ _) (read_partC L _))
    isplitl [Hmw]; · iexact Hmw
    isplitl [Hp]; · iexact Hp
    isplitl [Ht]; · iexact Ht
    isplitl [Hl]; · iexact Hl
    isplitl [Hs']; · iexact Hs'
    isplitl [Hc']; · iexact Hc'
    isplitl [H0]; · iexact H0
    isplitl [H1]; · iexact H1
    isplitl [H2]; · iexact H2
    isplitl [H3]; · iexact H3
    isplitl [H4]; · iexact H4
    isplitl [Hc0]; · iexact Hc0
    isplitl [Hc1]; · iexact Hc1
    isplitl [Hc2]; · iexact Hc2
    isplitl [Hc3]; · iexact Hc3
    isplitl [Hc4]; · iexact Hc4
    iexact HO
  iintro %_ ⟨Hp, Ht, Hl, Hs', Hc', H0, H1, H2, H3, H4, Hc0, Hc1, Hc2, Hc3, Hc4, ⟨%W', %hW', HO⟩⟩
  ihave Hs := (Entails.of_eq (pts_sRow (F := F) d L _)) $$ Hs'
  ihave Hc := (Entails.of_eq (pts_cRow (F := F) d L _)) $$ Hc'
  isplitl [Hp Ht Hl Hs Hc]
  · isplitl [Hp Ht Hl]
    · isplitl [Hp]; · iexact Hp
      isplitl [Ht]; · iexact Ht
      iexact Hl
    isplitl [Hs]; · iexact Hs
    iexact Hc
  isplitl [H0 H1 H2 H3 H4 Hbufs]
  · isplitl [H0]; · iexact H0
    isplitl [H1]; · iexact H1
    isplitl [H2]; · iexact H2
    isplitl [H3]; · iexact H3
    isplitl [H4]; · iexact H4
    iexact Hbufs
  isplitl [Hc0 Hc1 Hc2 Hc3 Hc4 Hsems]
  · isplitl [Hc0]; · iexact Hc0
    isplitl [Hc1]; · iexact Hc1
    isplitl [Hc2]; · iexact Hc2
    isplitl [Hc3]; · iexact Hc3
    isplitl [Hc4]; · iexact Hc4
    iexact Hsems
  iexists W'; isplitr
  · ipureintro; exact fun p hp => (hW' p hp).imp_right .inl
  iexact HO

/-! ## The obligation -/

/-- A tile's coordinates in the call's grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_partials (coordsV c s)
          pV (Memref.isWhole_whole _) tV (Memref.isWhole_whole _) lV (Memref.isWhole_whole _) sV (Memref.isWhole_whole _) cV (Memref.isWhole_whole _)
          pB (Memref.isWhole_whole _) tB (Memref.isWhole_whole _) lB (Memref.isWhole_whole _) sA (Memref.isWhole_whole _) cA (Memref.isWhole_whole _)
          cc0_scoped0 cc0_scoped1 cc0_scoped2 cc0_scoped3 cc0_scoped4) ⟨⟩ c s := rfl

theorem tileObl (hm : PreOK m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hm hF O W hO

end Tile

/-! ## The call's payload splits among the tasks and joins -/

theorem vecSplit : (K (F := F)).VecSplit' (P m) 0 := by
  intro d c
  show (bigSep Finset.univ fun i : Fin 16 => taskPts m d (m (sLoc d)) (m (cLoc d)) (wOf c i)) ⊢ |={Set.univ}=> iprop(
      (bigSep Finset.univ fun i : Fin 16 => taskPts m d (m (sLoc d)) (m (cLoc d)) (wOf c i))
      ∗ ((bigSep Finset.univ fun i : Fin 16 => taskPts m d (valS m d) (valC m d) (wOf c i))
          -∗ (bigSep Finset.univ fun i : Fin 16 => taskPts m d (valS m d) (valC m d) (wOf c i))))
  iintro H; imodintro
  isplitl [H]; · iexact H
  iintro H; iexact H

/-- The tasks of the two SparseCores are the thirty-two rows'. -/
theorem tasks_eq (Φ : Fin 32 → sProp 𝕄) :
    (bigSep Finset.univ fun c : Fin 2 => bigSep Finset.univ fun i : Fin 16 => Φ (wOf c i)) = bigSep Finset.univ Φ := by
  rw [← BI.bigSep_univ_prod (fun x : Fin 2 × Fin 16 => Φ (wOf x.1 x.2)), BI.bigSep_univ_equiv ((Equiv.prodComm (Fin 2) (Fin 16)).trans finProdFinEquiv) Φ]
  refine bigSep_congr fun x _ => congrArg Φ (Fin.ext ?_)
  show 2 * x.2.val + x.1.val = x.1.val + 2 * x.2.val
  omega

omit [FloatOps F] in
theorem sPts_rows (d : Dev nD) (f : Buf (Elt F) (sLoc d)) :
    (sLoc d ↦{fullShare} f : sProp 𝕄) = bigSep Finset.univ fun i : Fin 32 => sLoc d ↦[rowSet i]{fullShare} f := by
  rw [← pointsTo_biUnion Finset.univ (ℓ := sLoc d) rowSet rows_disjoint, rows_cover]; try rfl
omit [FloatOps F] in
theorem cPts_rows (d : Dev nD) (f : Buf (Elt F) (cLoc d)) :
    (cLoc d ↦{fullShare} f : sProp 𝕄) = bigSep Finset.univ fun i : Fin 32 => cLoc d ↦[rowSet i]{fullShare} f := by
  rw [← pointsTo_biUnion Finset.univ (ℓ := cLoc d) rowSet rows_disjoint, rows_cover]; try rfl

/-- The call's payload, all the tasks' together, is the tasks' shares of the arguments and the two results whole. -/
theorem payload_eq (d : Dev nD) (f : Buf (Elt F) (sLoc d)) (g : Buf (Elt F) (cLoc d)) :
    (bigSep Finset.univ fun c : Fin 2 => bigSep Finset.univ fun i : Fin 16 => taskPts m d f g (wOf c i))
      = (iprop((bigSep Finset.univ fun w : Fin 32 => argPts m d (qT w)) ∗ (sLoc d ↦{fullShare} f) ∗ (cLoc d ↦{fullShare} g)) : sProp 𝕄) := by
  rw [tasks_eq, bigSep_sep', sPts_rows, cPts_rows, bigSep_sep' (Φ := fun w : Fin 32 => (sLoc d ↦[rowSet w]{fullShare} f : sProp 𝕄))]

/-- The arguments whole are the share that stays and the tasks' shares. -/
theorem args_split (d : Dev nD) :
    (argPts m d fullShare : sProp 𝕄) ⊢ iprop(argPts m d qR ∗ bigSep Finset.univ fun w : Fin 32 => argPts m d (qT w)) := by
  unfold argPts
  rw [bigSep_sep', bigSep_sep']
  iintro ⟨Hp, Ht, Hl⟩
  ihave Hp := (Transfers.pointsTo_toks_split (ℓ := pLoc d) fullShare 32) $$ Hp
  ihave Ht := (Transfers.pointsTo_toks_split (ℓ := tLoc d) fullShare 32) $$ Ht
  ihave Hl := (Transfers.pointsTo_toks_split (ℓ := lLoc d) fullShare 32) $$ Hl
  icases Hp with ⟨Hp, Hps⟩
  icases Ht with ⟨Ht, Hts⟩
  icases Hl with ⟨Hl, Hls⟩
  isplitl [Hp Ht Hl]
  · isplitl [Hp]; · iexact Hp
    isplitl [Ht]; · iexact Ht
    iexact Hl
  isplitl [Hps]; · iexact Hps
  isplitl [Hts]; · iexact Hts
  iexact Hls

/-- and back. -/
theorem args_join (d : Dev nD) :
    iprop(argPts m d qR ∗ bigSep Finset.univ fun w : Fin 32 => argPts m d (qT w)) ⊢ (argPts m d fullShare : sProp 𝕄) := by
  unfold argPts
  rw [bigSep_sep', bigSep_sep']
  iintro ⟨⟨Hp, Ht, Hl⟩, Hps, Hts, Hls⟩
  isplitl [Hp Hps]
  · iapply (Transfers.pointsTo_toks_join (ℓ := pLoc d) fullShare 32)
    isplitl [Hp] <;> iassumption
  isplitl [Ht Hts]
  · iapply (Transfers.pointsTo_toks_join (ℓ := tLoc d) fullShare 32)
    isplitl [Ht] <;> iassumption
  iapply (Transfers.pointsTo_toks_join (ℓ := lLoc d) fullShare 32)
  isplitl [Hl] <;> iassumption

theorem st0_eq (d : Dev nD) :
    (bigSep Finset.univ fun c : Fin ((K (F := F)).nCore 0) => (P m).st 0 d c)
      = (iprop((bigSep Finset.univ fun w : Fin 32 => argPts m d (qT w)) ∗ (sLoc d ↦{fullShare} m (sLoc d)) ∗ (cLoc d ↦{fullShare} m (cLoc d))) : sProp 𝕄) :=
  payload_eq m d _ _
theorem dn0_eq (d : Dev nD) :
    (bigSep Finset.univ fun c : Fin ((K (F := F)).nCore 0) => (P m).dn 0 d c)
      = (iprop((bigSep Finset.univ fun w : Fin 32 => argPts m d (qT w)) ∗ (sLoc d ↦{fullShare} valS m d) ∗ (cLoc d ↦{fullShare} valC m d)) : sProp 𝕄) :=
  payload_eq m d _ _

end Cert.Proof.KernelIdeal

end
-- ==== Proof.KernelIdealFinal.lean ====
/-
  The second call: the program that turns the two tables' arrays into the result, run once at symbolic contents, and its region of @main.
-/
module

public import proofs.«01_k».proof.Proof.KernelIdealLaunch
public import proofs.«01_k».proof.Proof.Gen.KernelIdeal.Points
public import Idealize.ShloMosaic.Lib.Pipeline.Regions
public import Idealize.ShloMosaic.Lib.Pipeline.ValueKit.Geometry

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The second call's value -/

/-- The one number the second call makes of the array `A` of sums and the array `B` of counts. -/
def finVal (A B : Vec F S32x128 .f32) : FVec F S1x1 .f32 :=
  let v3 := k1_pay1 A
  let v7 := k1_pay2 B
  let v75 := k1_pay8 v3 v7 k1_pay3 (k1_pay5 A)
  let v83 := k1_pay9 v3 k1_pay3
  let v85 := k1_pay10 k1_pay3
  let v113 := k1_pay13 v3 v7 k1_pay3 v75 v83 v85
  let v121 := k1_pay14 v3 k1_pay3
  let v129 := k1_pay15 v7 k1_pay3
  k1_pay21 v3 v7 k1_pay3 (k1_pay4 A) (k1_pay6 v7 k1_pay3 (k1_pay5 A)) (k1_pay7 v3 v7 k1_pay3) (k1_pay11 v7 v83 v85) (k1_pay12 v3 v7 k1_pay3)
    (k1_pay16 v121 v129) (k1_pay17 v3 v7 k1_pay3) (k1_pay18 v3 v7 k1_pay3) (k1_pay19 v3 v7 k1_pay3 v113 v121 v129) (k1_pay20 k1_pay3) (Scalar.ofBits .f32 0x00000000#32)

/-- The result's staging buffer, written whole, holds what was written. -/
theorem writes_out (g w : Vec F S1x1 .f32) :
    (Memref.whole cc1_stg2_0).view.writes (Elt F) g [⟨Rect.unit ![0, 0] S1x1.size inb_S1x1_S1x1_0_0, w⟩] = w :=
  Memref.write_access_unit_zero_univ (Elt F) cc1_stg2_0 (off := ![0, 0]) (by decide) inb_S1x1_S1x1_0_0 g w

/-- The second call's body: from the two arrays staged whole, the result's buffer ends at their number. -/
theorem finalRun (d : Dev nD) (A B : Vec F S32x128 .f32) (g : Vec F S1x1 .f32) (Q : PUnit → sProp 𝕄) :
    iprop(((Memref.whole cc1_stg0_0).view.loc (T d) ↦{fullShare} A) ∗ ((Memref.whole cc1_stg1_0).view.loc (T d) ↦{fullShare} B)
        ∗ ((Memref.whole cc1_stg2_0).view.loc (T d) ↦{fullShare} g)
        ∗ (iprop(((Memref.whole cc1_stg0_0).view.loc (T d) ↦{fullShare} A) ∗ ((Memref.whole cc1_stg1_0).view.loc (T d) ↦{fullShare} B)
            ∗ ((Memref.whole cc1_stg2_0).view.loc (T d) ↦{fullShare} finVal A B)) -∗ Q ⟨⟩))
      ⊢ (wp frame (wpE (defs₀ (F := F)) 𝒱₀ (T d) none) Set.univ
          (cc1__finalize_body (Memref.whole cc1_stg0_0) (Memref.isWhole_whole _) (Memref.whole cc1_stg1_0) (Memref.isWhole_whole _)
            (Memref.whole cc1_stg2_0) (Memref.isWhole_whole _)) Q : sProp 𝕄) := by
  rw [cc1__finalize_body_eq_skeleton]
  unfold cc1__finalize_body_skel
  rw [k1_part5_eq_skeleton]
  unfold k1_part5_skel
  rw [k1_part1_eq_skeleton, k1_part2_eq_skeleton, k1_part3_eq_skeleton, k1_part4_eq_skeleton]
  unfold k1_part1_skel k1_part2_skel k1_part3_skel k1_part4_skel
  iintro ⟨H0, H1, H2, HQ⟩
  sl_exec
  have eA : View.readAt (Elt F) (Memref.whole cc1_stg0_0).view (Rect.unit ![0, 0] S32x128.size inb_S32x128_S32x128_0_0).toLoadRect A = A :=
    Memref.readAt_unit_zero (Elt F) cc1_stg0_0 (off := ![0, 0]) (by decide) inb_S32x128_S32x128_0_0 A
  have eB : View.readAt (Elt F) (Memref.whole cc1_stg1_0).view (Rect.unit ![0, 0] S32x128.size inb_S32x128_S32x128_0_0).toLoadRect B = B :=
    Memref.readAt_unit_zero (Elt F) cc1_stg1_0 (off := ![0, 0]) (by decide) inb_S32x128_S32x128_0_0 B
  rw [eA, eB, writes_out]
  sl_step
  iapply HQ
  isplitl [H0]; · iexact H0
  isplitl [H1]; · iexact H1
  sl_close

/-! ## The call's proof data -/

/-- The second call's result. -/
abbrev vLoc (d : Dev nD) : Loc nD τ sig := (SparseCore.T d : Thread nD τ).loc main_v1

/-- The embedding of the calls' staging cells: the left half of the second component. -/
abbrev EP : Emb UP 𝕄 := (Emb.inl : Emb UP (UP × Counters)).trans embR

instance EP_landsIn : (EP : Emb UP 𝕄).LandsIn (upEmb : UEmb _ 𝕄) := by unfold EP; infer_instance

/-- The array of sums as the second call fetches it, whole; -/
abbrev stgS (m : (ℓ : Loc nD τ sig) → Buf (Elt F) ℓ) (d : Dev nD) : Vec F S32x128 .f32 := ((cfg1.win 0).blk t1_0).view.read (Elt F) (valS m d)
/-- and the array of counts. -/
abbrev stgC (m : (ℓ : Loc nD τ sig) → Buf (Elt F) ℓ) (d : Dev nD) : Vec F S32x128 .f32 := ((cfg1.win 1).blk t1_0).view.read (Elt F) (valC m d)

/-- The waits a TensorCore has recorded by level `b`. -/
abbrev below (b : ℕ) (d : Dev nD) : Set (SemLoc sig × HIx 1) := {p | (K (F := F)).lev (T d, p.1) p.2 ≤ b}

/-- The proof data on device `d`: the two arrays at the tiles' values, the result's at what the launch left there; after the body
    the inputs' staging buffers as fetched and the result's at their number. -/
def dats (m : (ℓ : Loc nD τ sig) → Buf (Elt F) ℓ) (b : ℕ) (_ : Fin 1) (d : Dev nD) : Dat τ (Elt F) (HIx 1) ℕ UU ℕ cfg1 d where
  A w := match w with | ⟨0, _⟩ => valS m d | ⟨1, _⟩ => valC m d | ⟨2, _⟩ => m (vLoc d)
  after w _ := match w with | ⟨0, _⟩ => stgS m d | ⟨1, _⟩ => stgC m d | ⟨2, _⟩ => finVal (stgS m d) (stgC m d)
  Φ _ := BI.emp
  q _ := fullShare
  owed _ := 0
  recorded _ := below (F := F) b d

theorem before_S (m : (ℓ : Loc nD τ sig) → Buf (Elt F) ℓ) (b : ℕ) (d : Dev nD) (x : (cfg1.win 0).block.Idx → Elt F (cfg1.win 0).elt) :
    (dats m b 0 d).before 0 t1_0 x = stgS m d := by
  unfold Dat.before; rw [if_pos (by decide)]; rfl

theorem before_C (m : (ℓ : Loc nD τ sig) → Buf (Elt F) ℓ) (b : ℕ) (d : Dev nD) (x : (cfg1.win 1).block.Idx → Elt F (cfg1.win 1).elt) :
    (dats m b 0 d).before 1 t1_0 x = stgC m d := by
  unfold Dat.before; rw [if_pos (by decide)]; rfl

/-- The library's body obligation, from the body's run. -/
theorem body_obligation (m : (ℓ : Loc nD τ sig) → Buf (Elt F) ℓ) (b : ℕ) (d : Dev nD) :
    BodyObligation (dats m b 0 d) (defs₀ (F := F)) 𝒱₀ (none : HIx 1) Set.univ := fun t => by
  obtain rfl := fin_N1 t
  rw [bigSep_W1, bigSep_W1]
  simp only [owns_whole_eq]
  rw [show (dats m b 0 d).Φ t1_0.castSucc = BI.emp from rfl, show (dats m b 0 d).Φ t1_0.succ = BI.emp from rfl]
  iintro ⟨-, HO, ⟨%d0, %f0, %hf0, H0⟩, ⟨%d1, %f1, %hf1, H1⟩, ⟨%d2, %f2, %hf2, H2⟩⟩
  rw [before_S] at hf0
  rw [before_C] at hf1
  subst hf0 hf1
  iapply (finalRun d (stgS m d) (stgC m d) f2 _)
  isplitl [H0]; · iexact H0
  isplitl [H1]; · iexact H1
  isplitl [H2]; · iexact H2
  iintro ⟨H0, H1, H2⟩
  isplitr; · iempintro
  isplitl [HO]; · iexact HO
  isplitl [H0]
  · iexists _; isplitr; swap; (· iexact H0); ipureintro; dsimp only [dats]
  isplitl [H1]
  · iexists _; isplitr; swap; (· iexact H1); ipureintro; dsimp only [dats]
  · iexists _; isplitr; swap; (· iexact H2); ipureintro; dsimp only [dats]

/-! ## What the arrays hold -/

/-- An input's block is its whole array. -/
theorem stgS_eq (m : (ℓ : Loc nD τ sig) → Buf (Elt F) ℓ) (d : Dev nD) : stgS m d = valS m d := by
  funext j
  show valS m d (((cfg1.win 0).blk t1_0).view.emb j) = valS m d j
  congr 1
  funext a
  apply Fin.ext
  fin_cases a <;> exact (congrArg (· + _) (Nat.zero_mul _)).trans ((Nat.zero_add _).trans (Nat.one_mul _))

theorem stgC_eq (m : (ℓ : Loc nD τ sig) → Buf (Elt F) ℓ) (d : Dev nD) : stgC m d = valC m d := by
  funext j
  show valC m d (((cfg1.win 1).blk t1_0).view.emb j) = valC m d j
  congr 1
  funext a
  apply Fin.ext
  fin_cases a <;> exact (congrArg (· + _) (Nat.zero_mul _)).trans ((Nat.zero_add _).trans (Nat.one_mul _))

/-- The number of the second call from the launch memory. -/
def valF (m : (ℓ : Loc nD τ sig) → Buf (Elt F) ℓ) (d : Dev nD) : Buf (Elt F) (vLoc d) := finVal (valS m d) (valC m d)

/-- The region's result: the array of one word at the number. -/
theorem out_eq (m : (ℓ : Loc nD τ sig) → Buf (Elt F) ℓ) (b : ℕ) (d : Dev nD) : (dats m b 0 d).arrAt 2 cfg1.N = valF m d := by
  refine (dats m b 0 d).arrAt_eq_of_after_last 2 t1_0 (by decide +kernel) _ (fun j => ?_)
  have h : finVal (stgS m d) (stgC m d) = valF m d := by rw [stgS_eq, stgC_eq]; rfl
  exact congrFun h j

/-! ## The region -/

/-- The prefetched tables' admissible contents: there is no table. -/
abbrev adm : (p : Fin 1) → (pcfgs (F := F) p).Adm := fun p => (cfgs p).toPCfg_adm

/-- What the TensorCore owes around the region: nothing, its recorded waits bounded. -/
abbrev owed0 (b : ℕ) (d : Dev nD) : sProp 𝕄 :=
  iprop(∃ W, ⌜(K (F := F)).WBelow (T d) W b⌝ ∗ owes (T d) (0 : CellTallies nD τ sig (HIx 1)) W)

/-- Every wait of the region's own, like every wait before it, is recorded below the bound. -/
theorem below_of_bound (m : (ℓ : Loc nD τ sig) → Buf (Elt F) ℓ) (b : ℕ) (d : Dev nD) (t : Fin (cfg1.N + 1)) (W : Waits sig (HIx 1))
    (h : (↑W : Set _) ⊆ (dats m b 0 d).bound none t) : (K (F := F)).WBelow (T d) W b := fun p hp => by
  rcases h hp with h | ⟨w, s, rfl⟩
  · exact h
  · exact Nat.zero_le _

set_option backward.isDefEq.respectTransparency.types false in
/-- The second call as a region of @main: from the three arrays, the result's buffer to its number. -/
def reg (m : (ℓ : Loc nD τ sig) → Buf (Elt F) ℓ) (b : ℕ) :
    Pipeline.RegionSeg (pcfgs (F := F)) adm (dats m b) (none : HIx 1) defs₀ 𝒱₀ (K (F := F)).L (K (F := F)).lev 0 where
  win := launch1.win.to₀
  block_pos := launch1.block_pos
  stage_whole := launch1.stage_whole
  K := Fin 0
  osem := Fin.elim0
  ho := (by decide : Pipeline.OwnSemFacts spec1 Fin.elim0)
  hbody d := (body_obligation m b d).loose
  hwaits := Pipeline.hwaits_of_owed_zero _ _ _ _ _ _ 0 fun _ _ => rfl
  pre d := iprop((sLoc d ↦{fullShare} valS m d) ∗ (cLoc d ↦{fullShare} valC m d) ∗ (vLoc d ↦{fullShare} m (vLoc d))
    ∗ owed0 (F := F) b d)
  post d := iprop((sLoc d ↦{fullShare} valS m d) ∗ (cLoc d ↦{fullShare} valC m d) ∗ (vLoc d ↦{fullShare} valF m d)
    ∗ owed0 (F := F) b d)
  X _ := BI.emp
  Y _ := BI.emp
  Z _ := BI.emp
  hentry d := by
    rw [Pipeline.arrays_eq cfgs (dats m b) 0 d launch1.arr_whole ((dats m b 0 d).share_full fun _ => rfl), bigSep_W1]
    iintro ⟨⟨HS, HC, HV, ⟨%W, %hW, HO⟩⟩, -, -⟩
    imodintro
    isplitl [HS HC HV]
    · isplitl [HS]; · iexact HS
      isplitl [HC]; · iexact HC
      iexact HV
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin d := by
    rw [show (dats m b 0 d).Φ 0 = BI.emp from rfl]
    iintro -; iempintro
  hout d := by
    rw [show (dats m b 0 d).Φ (Fin.last cfg1.N) = BI.emp from rfl, scopedRest1_eq]
    unfold Pipeline.ownSems0; rw [show (Finset.univ : Finset (Fin 0)) = ∅ from rfl, BI.bigSep_empty]
    iintro -
    isplitr; · iempintro
    isplitr <;> iempintro
  hexit d := by
    rw [Pipeline.arrays_eq cfgs (dats m b) 0 d launch1.arr_whole ((dats m b 0 d).share_full fun _ => rfl), bigSep_W1]
    iintro ⟨⟨HS, HC, HV⟩, HO, -, -⟩
    unfold Pipeline.Dat.owesAt Pipeline.owesWithin
    icases HO with ⟨%W, %hW, HO⟩
    imodintro
    isplitl [HS]
    · rw [show (dats m b 0 d).arrAt 0 cfg1.N = valS m d from (dats m b 0 d).arrAt_in 0 rfl _]
      iexact HS
    isplitl [HC]
    · rw [show (dats m b 0 d).arrAt 1 cfg1.N = valC m d from (dats m b 0 d).arrAt_in 1 rfl _]
      iexact HC
    isplitl [HV]
    · rw [out_eq]; iexact HV
    iexists W; isplitr; · ipureintro; exact below_of_bound m b d _ W hW
    iexact HO

end Cert.Proof.KernelIdeal

end
-- ==== Proof.KernelIdealRun.lean ====
/-
  The whole program: @main on the TensorCore from the launch to the result, and the launch.
-/
module

public import proofs.«01_k».proof.Proof.KernelIdealFinal

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- What the launch deals each TensorCore for its region: the staging cells' ghost state and their transfers' tokens. -/
abbrev START (d : Dev nD) : sProp 𝕄 :=
  iprop(Pipeline.cellsGhost (Pipeline.pin (pcfgs (F := F)) adm) EP 0 d ∗ Pipeline.toksInit (Pipeline.pin (pcfgs (F := F)) adm) EP 0 d)

/-- The launch element: the handshakes', the staging cells', no counter yet. -/
def u₀ : UU := (initOf (K (F := F)).hsCells (K (F := F)).hsToks, (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ START)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HP⟩
  ihave HP' := (show (BI.own (embR ((initOf (Pipeline.cells cfgs cellOf_inj) (Pipeline.launchToks cfgs cellOf_inj), 1) : UP × Counters)) : sProp 𝕄)
      ⊢ _ from (Pipeline.fund_ghost cfgs EP cellOf_inj)) $$ HP
  imod HP' with ⟨HG, HT⟩
  imodintro
  isplitl [HH]; · iexact HH
  isplitl [HG HT]
  · unfold START
    rw [bigSep_sep']
    isplitl [HG]
    · iapply (Entails.of_eq (bigSep_congr fun d _ => bigSep_univ_of_subsingleton (Φ := fun p => Pipeline.cellsGhost cfgs EP p d) (0 : Fin 1)))
      iexact HG
    · iapply (Entails.of_eq (bigSep_congr fun d _ => bigSep_univ_of_subsingleton (Φ := fun p => Pipeline.toksInit cfgs EP p d) (0 : Fin 1)))
      iexact HT
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (show (BI.emp : sProp 𝕄) ⊢ bigSep Finset.univ (fun _ : Thread nD τ => (BI.emp : sProp 𝕄)) from by rw [bigSep_emp_const])
  iempintro

/-! ## @main on the TensorCore -/

/-- The program's result. -/
abbrev rLoc (d : Dev nD) : Loc nD τ sig := (SparseCore.T d : Thread nD τ).loc main_v2

/-- The TensorCore's arrays: the arguments, the tiles' arrays, the second call's result, the program's. -/
theorem unscopedBufs_eq (d : Dev nD) (W : (b : Ref sig .tc) → Buf (Elt F) ((d.tc : Thread nD τ).loc b)) :
    (unscopedBufs d W : sProp 𝕄) = iprop((pLoc d ↦{fullShare} W main_arg0) ∗ (tLoc d ↦{fullShare} W main_arg1) ∗ (lLoc d ↦{fullShare} W main_arg2)
      ∗ (sLoc d ↦{fullShare} W main_v0_0) ∗ (cLoc d ↦{fullShare} W main_v0_1) ∗ (vLoc d ↦{fullShare} W main_v1) ∗ (rLoc d ↦{fullShare} W main_v2)) := by
  unfold unscopedBufs
  rw [show (Finset.univ.filter fun b : Ref sig .tc => ¬ b.isScoped) = {main_arg0, main_arg1, main_arg2, main_v0_0, main_v0_1, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The reshape at the program's end, and the two arrays it names. -/
abbrev opR : HloOp τ sig (Elt F) := StableHlo.reshape main_v1 main_v2 (rfl : (.f32 : EltTy) = .f32) shapeCasts_S1x1_S_
abbrev v' : DevRef τ sig := Proc.devRef .tc (main_v1 : Ref sig .tc)
abbrev r' : DevRef τ sig := Proc.devRef .tc (main_v2 : Ref sig .tc)
abbrev S2 : Finset (DevRef τ sig) := {v', r'}

theorem held_S2 (d : Dev nD) (W : Valuation τ sig (Elt F)) :
    (held (T d) S2 W : sProp 𝕄) = iprop((vLoc d ↦{fullShare} W v') ∗ (rLoc d ↦{fullShare} W r')) := by
  unfold held S2
  rw [SparseCore.bigSep_insert' (by decide), bigSep_singleton]

/-- The arrays before the reshape. -/
def V1 (d : Dev nD) : Valuation τ sig (Elt F) := Function.update (fun b => m (d, b)) v' (valF m d)

theorem V1_v (d : Dev nD) : V1 m d v' = valF m d := Function.update_self _ _ _
theorem V1_r (d : Dev nD) : V1 m d r' = m (rLoc d) := Function.update_of_ne (show r' ≠ v' by decide) _ _

/-- The program's result: the second call's one word, as a scalar. -/
def valR (d : Dev nD) : Buf (Elt F) (rLoc d) := shapeCast S_ (valF m d) shapeCasts_S1x1_S_

theorem result_r (d : Dev nD) : (opR (F := F)).result (V1 m d) r' = valR m d := by
  refine (StableHlo.reshape_result' (x := main_v1) (y := main_v2) _ _ _ _ (V1 m d)).trans ?_
  rw [V1_v]; rfl

/-- What @main leaves the claim: the arguments at their launch contents and the result. -/
abbrev FIN (d : Dev nD) : sProp 𝕄 := iprop(argPts m d fullShare ∗ (rLoc d ↦{fullShare} valR m d))

/-- The reshape touches its operand and its result only. -/
theorem hOp : (opR (F := F)).bufs ⊆ S2 := show ({v', r'} : Finset (DevRef τ sig)) ⊆ S2 by decide

/-- After the reshape the result's array is at the result. -/
theorem held_result (d : Dev nD) :
    (held (T d) S2 ((opR (F := F)).result (V1 m d)) : sProp 𝕄) ⊢ (rLoc d ↦{fullShare} valR m d) := by
  rw [held_S2, result_r]
  exact sep_elim_right

/-- The second call as the pipeline's own program. -/
abbrev entryProg : Prog (TpuEff nD τ sig (Elt F) (ΛP (F := F)) .tc) PUnit := Prog.lift (.customCall (Pipeline.entry 0) ())

/-- The second call, from the region's resources to its result, in the pipeline's table; -/
theorem region_entry [∀ e, Nonempty (Elt F e)] (b : ℕ) (d : Dev nD) (Q : PUnit → sProp 𝕄) :
    iprop((iprop(boundary (T d) ∗ (reg m b).post d) -∗ Q ⟨⟩) ∗ boundary (T d) ∗ (reg m b).pre d ∗ levAts (K (F := F)).L (K (F := F)).lev ∗ START d)
      ⊢ wp frame (wpE (D (F := F)) 𝒱 (SparseCore.T d) none) Set.univ (entryProg (F := F)) Q := by
  have h := Pipeline.RegionSeg.wp (pcfgs (F := F)) adm (dats m b) (none : HIx 1) cellOf_inj EP defs₀ 𝒱₀
    (K (F := F)).L (K (F := F)).lev (reg m b) d none (fun _ h => nomatch h) (fun _ => .ret ⟨⟩) Q
  refine BIBase.Entails.trans ?_ h
  iintro ⟨HQ, Hb, Hpre, Hlev, HG, HT⟩
  isplitl [HQ]
  · iintro H
    ihave H' := HQ $$ H
    rw [wp_ret]; imodintro; iexact H'
  isplitl [Hb]; · iexact Hb
  isplitl [Hpre]; · iexact Hpre
  isplitl [Hlev]; · iexact Hlev
  isplitl [HG] <;> iassumption

/-- and as @main makes it. -/
theorem region_call [∀ e, Nonempty (Elt F e)] (b : ℕ) (d : Dev nD) (Q : PUnit → sProp 𝕄) :
    iprop((iprop(boundary (T d) ∗ (reg m b).post d) -∗ Q ⟨⟩) ∗ boundary (T d) ∗ (reg m b).pre d ∗ levAts (K (F := F)).L (K (F := F)).lev ∗ START d)
      ⊢ wp frame (wpE ((K (F := F)).defs (D (F := F))) 𝒱 (SparseCore.T d) none) Set.univ
          (Prog.lift (.customCall (SparseCore.inner (Pipeline.entry 0)) ())) Q :=
  (region_entry m b d Q).trans ((K (F := F)).wp_liftProg (D (F := F)) 𝒱 (SparseCore.T d) Set.univ none (entryProg (F := F)) Q)

/-- @main: the call on the SparseCores, the second call as a region, the reshape. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ START d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hp, Ht, Hl, Hs, Hc, Hv, Hr⟩, Hts, -⟩, ⟨HG, HT⟩⟩
  ihave Hlev := (SparseCore.Cfg.ctx_levAts κ) $$ Hctx
  ihave Hargs := (args_split m d) $$ [Hp Ht Hl]
  · isplitl [Hp]; · iexact Hp
    isplitl [Ht]; · iexact Ht
    iexact Hl
  icases Hargs with ⟨HR, Ha⟩
  -- the call on the SparseCores
  iapply ((K (F := F)).wp_run (D (F := F)) 𝒱 (EH := EH) (P := P m) κ d 0) $$ [Hst Ha Hs Hc Hb HR Hv Hr Hts HG HT Hlev]
  isplitr; · iexact Hctx
  isplitl [Hst]; · iexact Hst
  isplitl [Ha Hs Hc]
  · rw [st0_eq]
    isplitl [Ha]; · iexact Ha
    isplitl [Hs]; · iexact Hs
    iexact Hc
  iintro ⟨Hst, Hdn⟩
  ihave Hdn' := (Entails.of_eq (dn0_eq m d)) $$ Hdn
  icases Hdn' with ⟨Ha, Hs, Hc⟩
  ihave Hargs := (args_join m d) $$ [HR Ha]
  · isplitl [HR]; · iexact HR
    iexact Ha
  unfold SparseCore.Cfg.tcSt
  icases Hst with ⟨⟨%W, %hW, HO⟩, Hst⟩
  -- the second call
  iapply (region_call m _ d _)
  isplitl [Hst Hargs Hr Hts]
  swap
  · isplitl [Hb]; · iexact Hb
    isplitl [Hs Hc Hv HO]
    · unfold reg
      dsimp only
      isplitl [Hs]; · iexact Hs
      isplitl [Hc]; · iexact Hc
      isplitl [Hv]; · iexact Hv
      iexists W; isplitr; · ipureintro; exact hW
      iapply (Entails.of_eq (congrArg (fun O => owes (T d) O W) ((K (F := F)).Otc_end d (le_refl 1)))); iexact HO
    isplitr; · iexact Hlev
    isplitl [HG] <;> iassumption
  unfold reg
  dsimp only
  iintro ⟨Hb, -, -, Hv, ⟨%W', %hW', HO⟩⟩
  -- the reshape
  iapply (wp_hlo_within 𝒱 (SparseCore.T d) none Set.univ (op := opR) (S := S2) hOp (V := V1 m d)) $$ [Hb Hv Hr]
  · isplitl [Hb]; · iexact Hb
    rw [held_S2, V1_v, V1_r]
    isplitl [Hv]; · iexact Hv
    iexact Hr
  iintro ⟨Hb, Hheld⟩
  ihave Hr := (held_result m d) $$ Hheld
  rw [wp_ret]; imodintro; imodintro
  isplitl [Hst HO]
  · isplitl [HO]
    · iexists W'; isplitr; · ipureintro; exact hW'
      iapply (Entails.of_eq (congrArg (fun O => owes (T d) O W') ((K (F := F)).Otc_end d (le_refl 1)).symm)); iexact HO
    · iexact Hst
  isplitl [Hargs Hr]
  · isplitl [Hargs] <;> iassumption
  isplitl [Hb] <;> iassumption

/-- What the launch reads off a final state: the arguments as they were, the result. -/
def fq (d : Dev nD) (s' : Phys nD τ sig (Elt F)) : Prop :=
  s'.mem.mem (rLoc d) = valR m d ∧ s'.mem.mem (pLoc d) = m (pLoc d) ∧ s'.mem.mem (tLoc d) = m (tLoc d) ∧ s'.mem.mem (lLoc d) = m (lLoc d)

theorem hfin (d : Dev nD) (s' : Phys nD τ sig (Elt F)) : iprop(FIN m d ∗ SI s') ⊢ (⌜fq m d s'⌝ : sProp 𝕄) := by
  iintro ⟨⟨⟨Hp, Ht, Hl⟩, Hr⟩, HSI⟩
  icombine HSI Hp gives %hp
  icombine HSI Ht gives %ht
  icombine HSI Hl gives %hl
  icombine HSI Hr gives %hr
  ipureintro
  exact ⟨Buf.eq_of_forall_mem_univ hr, Buf.eq_of_forall_mem_univ hp, Buf.eq_of_forall_mem_univ ht, Buf.eq_of_forall_mem_univ hl⟩

/-! ## The program's run -/

/-- The program's post: the result, the arguments as they were, every counter at zero. -/
def QC : PUnit × MemSt nD τ sig (Elt F) → Prop := fun r =>
  (∀ d : Dev nD, r.2.mem (rLoc d) = valR m d ∧ r.2.mem (pLoc d) = m (pLoc d) ∧ r.2.mem (tLoc d) = m (tLoc d) ∧ r.2.mem (lLoc d) = m (lLoc d))
    ∧ r.2.sem = fun _ => 0

/-- From any memory whose labels are below 8, every execution of the program ends, at the result `valR`, the arguments as they were
    and every semaphore counter at zero. -/
theorem run_main [∀ e, Nonempty (Elt F e)] (hm : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m hm scFacts)
    (fun q _ => match q with | 0 => SparseCore.Cfg.VecSplit.of_plain (vecSplit m))
    m ρ main START (FIN m) (u₀ (F := F)) (sep_elim_left.trans (hu₀ m)) (hmain m ρ) (fq m) (hfin m) (QC m) (fun _ h hz => ⟨h, hz⟩)

end Cert.Proof.KernelIdeal

end
-- ==== Proof.Labels.lean ====
/-
  What the precondition says of the labels: each, read unsigned, is below 8 (`labels_lt`).
-/
module

public import proofs.«01_k».proof.Proof.Gen.Pre_labels_in_range
public import Idealize.ShloMosaic.Lib.ReduceAll
public import Idealize.ShloMosaic.Lib.WordCmp

@[expose] public section

noncomputable section

namespace Cert.Proof

open Idealize.ShloMosaic Cert.Pre_labels_in_range Cert.Pre_labels_in_range.Facts

/-- Where the precondition holds, every label read unsigned is below 8. -/
theorem labels_lt [Cert.Pre_labels_in_range.Facts] {F : FTy → Type} [FloatOps F] (p t : FVec F S3200000 .f32) (l : IVec S3200000 32)
    (h : Cert.Pre_labels_in_range.fn p t l = fun _ => 1#1) (i : S3200000.Idx) : (l i).toNat < 8 := by
  have e := Host.reduce_andi_all _ _ _ _ (Shape.Idx.first h_S_) (congrFun h _) i
  have e' : IntOp.andi (IntOp.cmpi .sge (l i) 0#32) (IntOp.cmpi .slt (l i) (BitVec.ofNat 32 8)) = 1#1 := e
  rw [WordCmp.andi_sge_zero_slt_ofNat (k := 8) (by decide)] at e'
  by_contra hn
  rw [decide_eq_false hn] at e'
  exact absurd e' (by decide)

end Cert.Proof

end
-- ==== Proof.Sums.lean ====
/-
  Finite sums over numbered elements, each element with a value `X n` and a label `L n`: by consecutive blocks, by cells of the table of 128 and by groups.
-/
module

public import Idealize.ShloMosaic.PureOps.Ideal.Laws

@[expose] public section

noncomputable section

namespace Cert.Proof

open Finset

/-- A sum over `n m` consecutive numbers is the sum, over `m` blocks, of the sums over each block of `n`. -/
theorem sum_blocks {M : Type*} [AddCommMonoid M] (f : ℕ → M) (n : ℕ) : ∀ m, ∑ i ∈ range m, ∑ k ∈ range n, f (n * i + k) = ∑ q ∈ range (n * m), f q
  | 0 => by simp
  | m + 1 => by rw [sum_range_succ, sum_blocks f n m, Nat.mul_succ, sum_range_add]

/-- Element `n`'s part of cell `j`: its value at the cell of its label and lane, zero at every other. -/
def cell (X : ℕ → EReal) (L : ℕ → ℕ) (j n : ℕ) : EReal := if 16 * L n + n % 16 = j then X n else 0

/-- An element's parts of all the cells sum to its value: its label is below 8. -/
theorem sum_cell {X : ℕ → EReal} {L : ℕ → ℕ} (hL : ∀ n, L n < 8) (n : ℕ) : ∑ j : Fin 128, cell X L j.val n = X n := by
  have h : 16 * L n + n % 16 < 128 := by have := hL n; omega
  rw [sum_eq_single (⟨16 * L n + n % 16, h⟩ : Fin 128)]
  · exact if_pos rfl
  · exact fun j _ hj => if_neg fun e => hj (Fin.ext e.symm)
  · exact fun h => absurd (mem_univ _) h

/-- An element's parts of group `g`'s cells sum to its value if `g` is its label, else to zero. -/
theorem sum_cell_group {X : ℕ → EReal} {L : ℕ → ℕ} (hL : ∀ n, L n < 8) (g n : ℕ) :
    (∑ j : Fin 128, if j.val / 16 = g then cell X L j.val n else 0) = if L n = g then X n else 0 := by
  have e : ∀ j : Fin 128, (if j.val / 16 = g then cell X L j.val n else 0) = if L n = g then cell X L j.val n else 0 := by
    intro j
    by_cases h : 16 * L n + n % 16 = j.val
    · have : j.val / 16 = L n := by omega
      rw [this]
    · unfold cell; rw [if_neg h, ite_self, ite_self]
  rw [sum_congr rfl fun j _ => e j]
  by_cases h : L n = g
  · simp only [if_pos h]; exact sum_cell hL n
  · simp only [if_neg h]; exact sum_const_zero

/-- All the cells of a table of `N` elements sum to the elements' values. -/
theorem sum_table {X : ℕ → EReal} {L : ℕ → ℕ} (hL : ∀ n, L n < 8) (N : ℕ) :
    ∑ j : Fin 128, ∑ n ∈ range N, cell X L j.val n = ∑ n ∈ range N, X n := by
  rw [sum_comm]
  exact sum_congr rfl fun n _ => sum_cell hL n

/-- Group `g`'s cells of a table of `N` elements sum to the values of the elements of label `g`. -/
theorem sum_table_group {X : ℕ → EReal} {L : ℕ → ℕ} (hL : ∀ n, L n < 8) (g N : ℕ) :
    (∑ j : Fin 128, if j.val / 16 = g then ∑ n ∈ range N, cell X L j.val n else 0) = ∑ n ∈ range N, if L n = g then X n else 0 := by
  rw [sum_congr rfl fun (j : Fin 128) _ => show (if j.val / 16 = g then ∑ n ∈ range N, cell X L j.val n else 0)
    = ∑ n ∈ range N, if j.val / 16 = g then cell X L j.val n else 0 by split <;> simp, sum_comm]
  exact sum_congr rfl fun n _ => sum_cell_group hL g n

end Cert.Proof

end
-- ==== Proof.Cells.lean ====
/-
  The tables of a task at ideal floats, as sums: after a task's ten chunks cell `j` of the first table is the sum of the squared differences of the
  task's elements whose label and lane name the cell (`sums_apply`), and of the second table the sum of as many ones (`cnts_apply`).
-/
module

public import proofs.«01_k».proof.Proof.KernelIdealTask
public import proofs.«01_k».proof.Proof.Sums
public import Idealize.ShloMosaic.PureOps.Ideal.Laws

@[expose] public section

noncomputable section

namespace Cert.Proof.KernelIdeal

open Cert.KernelIdeal Cert.KernelIdeal.Gen
open Idealize.ShloMosaic
open Finset

/-- Lane `n` of a vector of sixteen (of `n`'s remainder). -/
def lane (n : ℕ) : S16.Idx := fun a => ⟨n % S16.size a, Nat.mod_lt _ (by fin_cases a; decide)⟩

/-- Adding `w k` at the index `c k`, for each `k` of a list in turn, adds at index `j` the `w k` with `c k = j`. -/
theorem foldl_add {J : Type} [DecidableEq J] (c : Fin 16 → J) (w : Fin 16 → EReal) (Ls : List (Fin 16)) (j : J) :
    ∀ g : J → EReal, Ls.foldl (fun g k j => if j = c k then g (c k) + w k else g j) g j = g j + (Ls.map fun k => if j = c k then w k else 0).sum := by
  induction Ls with
  | nil => intro g; exact (add_zero _).symm
  | cons k Ls ih =>
    intro g
    rw [List.foldl_cons, ih, List.map_cons, List.sum_cons, ← add_assoc]
    congr 1
    by_cases e : j = c k
    · rw [if_pos e, if_pos e, ← e]
    · rw [if_neg e, if_neg e, add_zero]

/-- A choice by either of two equivalent conditions, however each is decided. -/
theorem ite_iff {P Q : Prop} (dP : Decidable P) (dQ : Decidable Q) (h : P ↔ Q) (x y : EReal) : @ite _ P dP x y = @ite _ Q dQ x y := by
  by_cases q : Q
  · rw [if_pos q, if_pos (h.2 q)]
  · rw [if_neg q, if_neg fun p => q (h.1 p)]

/-- A store of sixteen lanes that adds, at cell `j`: the old value and the sum of the lanes that name the cell. -/
theorem storeIdx_add (f : Vec Ideal S128 .f32) (idx : IVec S16 32) (v : Vec Ideal S16 .f32)
    (h : ∀ (a : Fin S128.rank) (x : S16.Idx), ((![idx] : Fin S128.rank → IVec S16 32) a x).toNat < S128.size a) (j : S128.Idx) :
    storeIdx (F := Ideal) (e := .f32) f ![idx] v (fun _ => 1#1) true h j
      = (f j + ∑ k ∈ range 16, if (idx (lane k)).toNat = (j 0).val then v (lane k) else 0 : EReal) := by
  have hx : ∀ k : Fin 16, (Shape.ofLane (d := ![16]) k : S16.Idx) = lane k.val := fun k => by
    funext a; apply Fin.ext; fin_cases a; exact (Nat.mod_eq_of_lt k.isLt).symm
  have hs : storeIdx (F := Ideal) (e := .f32) f ![idx] v (fun _ => 1#1) true h
      = (List.finRange 16).foldl (fun (g : S128.Idx → EReal) k j =>
          if j = idxAt (s := S128) (t := S16) ![idx] h (Shape.ofLane (d := ![16]) k)
          then g (idxAt (s := S128) (t := S16) ![idx] h (Shape.ofLane (d := ![16]) k)) + v (Shape.ofLane (d := ![16]) k) else g j) f := by
    refine congrArg (fun st => List.foldl st f (List.finRange 16)) (funext fun g => funext fun k => (if_pos rfl).trans (funext fun i => ?_))
    exact ite_iff _ _ ⟨fun e => funext fun a => Fin.ext (e a), fun e a => congrArg (fun z : S128.Idx => (z a).val) e⟩ _ _
  refine (congrFun hs j).trans ((foldl_add (fun k => idxAt (s := S128) (t := S16) ![idx] h (Shape.ofLane (d := ![16]) k))
    (fun k => v (Shape.ofLane (d := ![16]) k)) (List.finRange 16) j f).trans ?_)
  rw [← Fin.sum_univ_def, ← Fin.sum_univ_eq_sum_range (fun k => if (idx (lane k)).toNat = (j 0).val then v (lane k) else (0 : EReal)) 16]
  refine congrArg (fun z : EReal => (f j : EReal) + z) (sum_congr rfl fun k _ => ?_)
  rw [hx]
  exact if_congr ⟨fun e => (congrArg (fun z : S128.Idx => (z 0).val) e).symm,
    fun e => funext fun a => Fin.ext (by fin_cases a; exact e.symm)⟩ rfl rfl

/-- The cell that lane `k` of a vector of labels names. -/
theorem pay1_lane (l : Vec Ideal S16 .i32) (h : ∀ x, (l x).toNat < 8) (k : ℕ) (hk : k < 16) :
    (k0_pay1 (F := Ideal) lanes l (lane k)).toNat = 16 * (l (lane k)).toNat + k := by
  have e : lanes (lane k) = BitVec.ofNat 32 (lane k 0).val := iota_single_apply _ _ _ 0 _ (lane k)
  have e' : (lane k 0).val = k := Nat.mod_eq_of_lt hk
  have := h (lane k)
  show ((l (lane k)) * 16#32 + lanes (lane k)).toNat = _
  rw [e, e', BitVec.toNat_add, BitVec.toNat_mul, BitVec.toNat_ofNat, BitVec.toNat_ofNat]
  omega

/-- The squared difference of element `n` of the arguments `p` and `t`. -/
def sqAt (p t : Vec Ideal S3200000 .f32) (n : ℕ) : EReal := ((p (argIx n) : EReal) - t (argIx n)) * ((p (argIx n) : EReal) - t (argIx n))

/-- The one that an element counts. -/
def oneAt (_ : ℕ) : EReal := Ideal.ofBits .f32 0x3F800000#32

/-- The label of element `n`. -/
def labAt (l : Vec Ideal S3200000 .i32) (n : ℕ) : ℕ := (l (argIx n)).toNat

/-- Lane `k` of vector `i` of the chunk from position `b` on is the argument's element `b + 16 i + k`. -/
theorem vec_chunk {α : Type} (A : S3200000.Idx → α) (b i k : ℕ) (hi : i < 625) (hk : k < 16) :
    vec (chunk A b) i (lane k) = A (argIx (b + (16 * i + k))) := by
  show A (argIx (b + (16 * i + k % 16) % 10000)) = _
  rw [Nat.mod_eq_of_lt hk, Nat.mod_eq_of_lt (by omega)]

variable (p t : Vec Ideal S3200000 .f32) (l : Vec Ideal S3200000 .i32) (hl : ∀ j, (l j).toNat < 8)

include hl in
/-- One vector's sums. -/
theorem addSums_apply (b i : ℕ) (hb : 16 ∣ b) (hi : i < 625) (acc : Vec Ideal S128 .f32) (j : S128.Idx) :
    addSums (vec (chunk p b) i) (vec (chunk t b) i) (vec (chunk l b) i) acc j
      = ((acc j : EReal) + ∑ k ∈ range 16, cell (sqAt p t) (labAt l) (j 0).val (b + (16 * i + k)) : EReal) := by
  have hv : ∀ x, (vec (chunk l b) i x).toNat < 8 := fun x => hl _
  unfold addSums
  rw [dif_pos (chk_of_lt _ hv), storeIdx_add]
  refine congrArg (fun z : EReal => (acc j : EReal) + z) (sum_congr rfl fun k hk => ?_)
  have hk' : k < 16 := mem_range.1 hk
  rw [pay1_lane _ hv k hk', vec_chunk l b i k hi hk']
  unfold cell
  have hm : (b + (16 * i + k)) % 16 = k := by omega
  rw [hm]
  refine if_congr Iff.rfl ?_ rfl
  show ((vec (chunk p b) i (lane k) : EReal) - vec (chunk t b) i (lane k)) * ((vec (chunk p b) i (lane k) : EReal) - vec (chunk t b) i (lane k)) = _
  rw [vec_chunk p b i k hi hk', vec_chunk t b i k hi hk']
  rfl

include hl in
/-- One vector's counts. -/
theorem addCnts_apply (b i : ℕ) (hb : 16 ∣ b) (hi : i < 625) (acc : Vec Ideal S128 .f32) (j : S128.Idx) :
    addCnts (vec (chunk l b) i) acc j
      = ((acc j : EReal) + ∑ k ∈ range 16, cell oneAt (labAt l) (j 0).val (b + (16 * i + k)) : EReal) := by
  have hv : ∀ x, (vec (chunk l b) i x).toNat < 8 := fun x => hl _
  unfold addCnts
  rw [dif_pos (chk_of_lt _ hv), storeIdx_add]
  refine congrArg (fun z : EReal => (acc j : EReal) + z) (sum_congr rfl fun k hk => ?_)
  have hk' : k < 16 := mem_range.1 hk
  rw [pay1_lane _ hv k hk', vec_chunk l b i k hi hk']
  unfold cell
  have hm : (b + (16 * i + k)) % 16 = k := by omega
  rw [hm]
  rfl

/-- A running total over the first `n` numbers is a sum. -/
theorem run_sum {f : ℕ → EReal} {c : ℕ → EReal} (n : ℕ) (h : ∀ i < n, f (i + 1) = f i + c i) : f n = f 0 + ∑ i ∈ range n, c i := by
  induction n with
  | zero => simp
  | succ n ih => rw [h n (Nat.lt_succ_self n), ih fun i hi => h i (Nat.lt_succ_of_lt hi), sum_range_succ, add_assoc]

include hl in
/-- One chunk's sums. -/
theorem chunkSums_apply (b : ℕ) (hb : 16 ∣ b) (acc : Vec Ideal S128 .f32) (j : S128.Idx) :
    chunkSums (chunk p b) (chunk t b) (chunk l b) acc 625 j
      = ((acc j : EReal) + ∑ q ∈ range 10000, cell (sqAt p t) (labAt l) (j 0).val (b + q) : EReal) := by
  rw [run_sum (f := fun i => chunkSums (chunk p b) (chunk t b) (chunk l b) acc i j) 625 fun i hi => addSums_apply p t l hl b i hb hi _ j,
    sum_blocks (fun q => cell (sqAt p t) (labAt l) (j 0).val (b + q)) 16 625]
  rfl

include hl in
/-- One chunk's counts. -/
theorem chunkCnts_apply (b : ℕ) (hb : 16 ∣ b) (acc : Vec Ideal S128 .f32) (j : S128.Idx) :
    chunkCnts (chunk l b) acc 625 j
      = ((acc j : EReal) + ∑ q ∈ range 10000, cell oneAt (labAt l) (j 0).val (b + q) : EReal) := by
  rw [run_sum (f := fun i => chunkCnts (chunk l b) acc i j) 625 fun i hi => addCnts_apply l hl b i hb hi _ j,
    sum_blocks (fun q => cell oneAt (labAt l) (j 0).val (b + q)) 16 625]
  rfl

/-- A table of zeros at ideal floats. -/
theorem zeros_apply (j : S128.Idx) : (zeros (F := Ideal) j : EReal) = 0 := Ideal.ofBits_zero_f32

include hl in
/-- Cell `j` of the first table after a task. -/
theorem sums_apply (b : ℕ) (hb : 16 ∣ b) (j : S128.Idx) :
    (sums p t l b 10 j : EReal) = ∑ q ∈ range 100000, cell (sqAt p t) (labAt l) (j 0).val (b + q) := by
  rw [run_sum (f := fun k => sums p t l b k j) 10 fun k _ => chunkSums_apply p t l hl (b + 10000 * k) (by omega) _ j]
  simp only [Nat.add_assoc b]
  rw [sum_blocks (fun q => cell (sqAt p t) (labAt l) (j 0).val (b + q)) 10000 10]
  exact (congrArg (fun z : EReal => z + _) (zeros_apply j)).trans (zero_add _)

include hl in
/-- Cell `j` of the second table after a task. -/
theorem cnts_apply (b : ℕ) (hb : 16 ∣ b) (j : S128.Idx) :
    (cnts (F := Ideal) l b 10 j : EReal) = ∑ q ∈ range 100000, cell oneAt (labAt l) (j 0).val (b + q) := by
  rw [run_sum (f := fun k => cnts (F := Ideal) l b k j) 10 fun k _ => chunkCnts_apply l hl (b + 10000 * k) (by omega) _ j]
  simp only [Nat.add_assoc b]
  rw [sum_blocks (fun q => cell oneAt (labAt l) (j 0).val (b + q)) 10000 10]
  exact (congrArg (fun z : EReal => z + _) (zeros_apply j)).trans (zero_add _)

end Cert.Proof.KernelIdeal

end
-- ==== Proof.Formula.lean ====
/-
  The number both programs compute, at ideal floats: the mean of the squared differences plus the sample variance of the eight groups' means.
-/
module

public import Idealize.ShloMosaic.Lib.IdealHost

@[expose] public section

noncomputable section

namespace Cert.Proof

open Idealize.ShloMosaic
open Finset

/-- Group `g`'s mean: its sum `S g` divided by its count `C g`, a count below one taken as one. -/
def groupMean (S C : Fin 8 → EReal) (g : Fin 8) : EReal := Ideal.div (S g) (max (C g) (Ideal.ofBits .f32 0x3F800000#32))

/-- The sum over the eight groups of the squared distance of a group's mean from the mean of the means. -/
def spread (M : Fin 8 → EReal) : EReal :=
  ∑ g, (M g - Ideal.div (∑ k, M k) (Ideal.ofBits .f32 0x41000000#32)) * (M g - Ideal.div (∑ k, M k) (Ideal.ofBits .f32 0x41000000#32))

/-- The result: the total `T` over the 3200000 elements, plus the spread of the groups' means over seven. -/
def loss (T : EReal) (S C : Fin 8 → EReal) : EReal :=
  Ideal.div T (Ideal.ofBits .f32 0x4A435000#32) + Ideal.div (spread (groupMean S C)) (Ideal.ofBits .f32 0x40E00000#32)

/-- The result for `N` elements, element `n` of value `X n`, count `O n` and label `L n`. -/
def lossOf (X O : ℕ → EReal) (L : ℕ → ℕ) (N : ℕ) : EReal :=
  loss (∑ n ∈ range N, X n) (fun g => ∑ n ∈ range N, if L n = g.val then X n else 0) (fun g => ∑ n ∈ range N, if L n = g.val then O n else 0)

/-- The f32 pattern `0x41000000` is eight. -/
theorem ofBits_eight : Ideal.ofBits .f32 0x41000000#32 = ((8 : ℝ) : EReal) := by
  simp [Ideal.ofBits, Ideal.ieee, -EReal.coe_mul]; norm_num

/-- The f32 pattern `0x40E00000` is seven. -/
theorem ofBits_seven : Ideal.ofBits .f32 0x40E00000#32 = ((7 : ℝ) : EReal) := by
  simp [Ideal.ofBits, Ideal.ieee, -EReal.coe_mul]; norm_num

end Cert.Proof

end
-- ==== Proof.FinalValue.lean ====
/-
  The second call's value at ideal floats: of the two results of the first call it makes the number `lossOf` of the arguments (`valR_eq`).
-/
module

public import proofs.«01_k».proof.Proof.KernelIdealRun
public import proofs.«01_k».proof.Proof.Cells
public import proofs.«01_k».proof.Proof.Formula
public import Idealize.ShloMosaic.Lib.ValueLayout
public import Idealize.ShloMosaic.Lib.Pipeline.Value

@[expose] public section

noncomputable section

namespace Cert.Proof.KernelIdeal

open Cert.KernelIdeal Cert.KernelIdeal.Gen
open Idealize.ShloMosaic Idealize.ShloMosaic.ValueIdx
open Finset

/-! ## Sums over a row -/

/-- The sum of a row of 128, as the call takes it. -/
def rowSum (v : FVec Ideal S1x128 .f32) : EReal :=
  extractAt ![0, 0, 0] (shapeCast S1x1x1 (multiReduction (F := Ideal) .add [1, 2] S1 (shapeCast S1x1x128 v shapeCasts_S1x128_S1x1x128) 0x00000000#32
    reduces_S1x1x128_S1 (.inl rfl) rfl) shapeCasts_S1_S1x1x1) inpos_S1x1x1_p0_0_0

/-- It is the sum of the row's 128 elements. -/
theorem rowSum_eq (v : FVec Ideal S1x128 .f32) : rowSum v = ∑ n : Fin 128, v (ix2 0 n) := by
  have h := Ideal.multiReduction_add_total (shapeCast S1x1x128 v shapeCasts_S1x128_S1x1x128) 0x00000000#32 reduces_S1x1x128_S1
    (fun b => by fin_cases b; rfl) (.inl rfl) rfl
  refine (h _).trans ?_
  refine (Equiv.sum_comp (Shape.reshapeEquiv _) v).trans ?_
  exact (sum_idx2 _).trans (Fin.sum_univ_one _)

/-- The number the table of group numbers holds at cell `n`. -/
theorem gid_apply (n : Fin 128) : k1_pay3 (ix2 0 n) = BitVec.ofNat 32 (n.val / 16) := by
  revert n; decide +kernel

/-- Group `g`'s sum of a row of 128, as the call takes it: of the cells that the table of group numbers gives the number `g`. -/
def groupSum (v : FVec Ideal S1x128 .f32) (g : BitVec 32) : EReal :=
  rowSum (select (cmpi .eq k1_pay3 (broadcast S1x128 g)) v (broadcast S1x128 (Scalar.ofBits (F := Ideal) .f32 0x00000000#32)))

/-- It is the sum of the sixteen cells of group `g`. -/
theorem groupSum_eq (v : FVec Ideal S1x128 .f32) (g : ℕ) (hg : g < 8) :
    groupSum v (BitVec.ofNat 32 g) = ∑ n : Fin 128, if n.val / 16 = g then v (ix2 0 n) else 0 := by
  refine (rowSum_eq _).trans (sum_congr rfl fun n _ => ?_)
  have hc : cmpi .eq k1_pay3 (broadcast S1x128 (BitVec.ofNat 32 g)) (ix2 0 n) = BitVec.ofBool (n.val / 16 == g) := by
    show BitVec.ofBool (k1_pay3 (ix2 0 n) == BitVec.ofNat 32 g) = _
    rw [gid_apply]
    refine congrArg BitVec.ofBool ?_
    have hn := n.isLt
    rw [Bool.eq_iff_iff, beq_iff_eq, beq_iff_eq, ← BitVec.toNat_inj, BitVec.toNat_ofNat, BitVec.toNat_ofNat]
    omega
  show Scalar.select (cmpi .eq k1_pay3 (broadcast S1x128 (BitVec.ofNat 32 g)) (ix2 0 n)) (v (ix2 0 n)) (Ideal.ofBits .f32 0x00000000#32) = _
  rw [hc, Ideal.ofBits_zero_f32]
  by_cases e : n.val / 16 = g
  · rw [if_pos e, beq_iff_eq.2 e]; rfl
  · rw [if_neg e, beq_eq_false_iff_ne.2 e]; rfl

/-- The sum over the 32 rows, column by column. -/
theorem colSum_eq (A : Vec Ideal S32x128 .f32) (n : Fin 128) : k1_pay1 (F := Ideal) A (ix2 0 n) = ∑ w : Fin 32, A (ix2 w n) := by
  have h : k1_pay1 (F := Ideal) A (ix2 0 n)
      = multiReduction (F := Ideal) .add [0] S128 (shapeCast S32x128 A shapeCasts_S32x128_S32x128) 0x00000000#32 reduces_S32x128_S128 (.inl rfl) rfl (ix1 n) := by
    unfold k1_pay1
    exact shapeCast_a_1a_apply (a := 128) (multiReduction (F := Ideal) .add [0] S128 (shapeCast S32x128 A shapeCasts_S32x128_S32x128) 0x00000000#32
      reduces_S32x128_S128 (.inl rfl) rfl) shapeCasts_S128_S1x128 0 n
  rw [h, shapeCast_self]
  refine (Ideal.multiReduction_add_single A _ _ _ _ _).trans (sum_congr rfl fun w _ => congrArg A (funext fun a => ?_))
  fin_cases a <;> rfl

/-! ## The number -/

/-- The second call's number, from the columns' sums. -/
theorem finVal_eq (A B : Vec Ideal S32x128 .f32) (j : S1x1.Idx) :
    finVal (F := Ideal) A B j
      = loss (∑ n : Fin 128, ∑ w : Fin 32, A (ix2 w n)) (fun g => ∑ n : Fin 128, if n.val / 16 = g.val then ∑ w : Fin 32, A (ix2 w n) else 0)
          (fun g => ∑ n : Fin 128, if n.val / 16 = g.val then ∑ w : Fin 32, B (ix2 w n) else 0) := by
  have hg : ∀ (v : Vec Ideal S32x128 .f32) (g : Fin 8), groupSum (k1_pay1 v) (BitVec.ofNat 32 g.val)
      = ∑ n : Fin 128, if n.val / 16 = g.val then ∑ w : Fin 32, v (ix2 w n) else 0 := fun v g =>
    (groupSum_eq _ g.val g.isLt).trans (sum_congr rfl fun n _ => by rw [colSum_eq])
  have ht : rowSum (k1_pay1 A) = ∑ n : Fin 128, ∑ w : Fin 32, A (ix2 w n) := (rowSum_eq _).trans (sum_congr rfl fun n _ => colSum_eq A n)
  rw [← ht, ← funext fun g => hg A g, ← funext fun g => hg B g]
  let q : Fin 8 → EReal := fun g => Ideal.div (groupSum (k1_pay1 A) (BitVec.ofNat 32 g.val))
      (max (groupSum (k1_pay1 B) (BitVec.ofNat 32 g.val)) (Ideal.ofBits .f32 0x3F800000#32))
  let z : EReal := Ideal.ofBits .f32 0x00000000#32
  let mu : EReal := Ideal.div (z + q 0 + q 1 + q 2 + q 3 + q 4 + q 5 + q 6 + q 7) (Ideal.ofBits .f32 0x41000000#32)
  have h : finVal (F := Ideal) A B j = Ideal.div (rowSum (k1_pay1 A)) (Ideal.ofBits .f32 0x4A435000#32)
      + Ideal.div (z + (q 0 - mu) * (q 0 - mu) + (q 1 - mu) * (q 1 - mu) + (q 2 - mu) * (q 2 - mu) + (q 3 - mu) * (q 3 - mu)
          + (q 4 - mu) * (q 4 - mu) + (q 5 - mu) * (q 5 - mu) + (q 6 - mu) * (q 6 - mu) + (q 7 - mu) * (q 7 - mu)) (Ideal.ofBits .f32 0x40E00000#32) := rfl
  have hz : z = 0 := Ideal.ofBits_zero_f32
  have hmu : mu = Ideal.div (∑ k, q k) (Ideal.ofBits .f32 0x41000000#32) := by
    show Ideal.div (z + q 0 + q 1 + q 2 + q 3 + q 4 + q 5 + q 6 + q 7) _ = _
    rw [Fin.sum_univ_eight, hz, zero_add]
  have hs : spread q = (q 0 - mu) * (q 0 - mu) + (q 1 - mu) * (q 1 - mu) + (q 2 - mu) * (q 2 - mu) + (q 3 - mu) * (q 3 - mu)
          + (q 4 - mu) * (q 4 - mu) + (q 5 - mu) * (q 5 - mu) + (q 6 - mu) * (q 6 - mu) + (q 7 - mu) * (q 7 - mu) := by
    unfold spread
    rw [← hmu, Fin.sum_univ_eight]
  rw [h, hz, zero_add, ← hs]
  rfl

/-- The columns of the first call's two results: the cells of the tables of all the elements. -/
theorem col_sum (X : ℕ → EReal) (L : ℕ → ℕ) (n : ℕ) (f : Fin 32 → EReal)
    (hf : ∀ w : Fin 32, f w = ∑ q ∈ range 100000, cell X L n (100000 * w.val + q)) : ∑ w : Fin 32, f w = ∑ q ∈ range 3200000, cell X L n q := by
  rw [sum_congr rfl fun w _ => hf w, Fin.sum_univ_eq_sum_range (fun w => ∑ q ∈ range 100000, cell X L n (100000 * w + q)) 32,
    sum_blocks (cell X L n) 100000 32]

/-- The program's result, of labels below 8. -/
theorem valR_eq (m : (ℓ : Loc nD τ sig) → Buf (Elt Ideal) ℓ) (d : Dev nD) (hl : ∀ j, (m (lLoc d) j).toNat < 8) (j : S_.Idx) :
    valR (F := Ideal) m d j = lossOf (sqAt (m (pLoc d)) (m (tLoc d))) oneAt (labAt (m (lLoc d))) 3200000 := by
  have hL : ∀ n, labAt (m (lLoc d)) n < 8 := fun n => hl _
  have hS : ∀ n : Fin 128, ∑ w : Fin 32, valS m d (ix2 w n) = ∑ q ∈ range 3200000, cell (sqAt (m (pLoc d)) (m (tLoc d))) (labAt (m (lLoc d))) n.val q :=
    fun n => col_sum _ _ _ _ fun w => sums_apply _ _ _ hl _ (by omega) _
  have hC : ∀ n : Fin 128, ∑ w : Fin 32, valC m d (ix2 w n) = ∑ q ∈ range 3200000, cell oneAt (labAt (m (lLoc d))) n.val q :=
    fun n => col_sum _ _ _ _ fun w => cnts_apply _ hl _ (by omega) _
  refine (finVal_eq (valS m d) (valC m d) (Shape.reshapeEquiv shapeCasts_S1x1_S_ j)).trans ?_
  simp only [hS, hC, sum_table hL, sum_table_group hL]
  rfl

end Cert.Proof.KernelIdeal

end
-- ==== Proof.RefValue.lean ====
/-
  The reference's result at ideal floats: the number `lossOf` of the arguments (`ref_eq`).
-/
module

public import proofs.«01_k».proof.Proof.Gen.ReferenceIdeal.Read
public import proofs.«01_k».proof.Proof.Formula
public import Idealize.ShloMosaic.Lib.ValueIdxRank1
public import Idealize.ShloMosaic.Lib.Routing.OpsPair

@[expose] public section

noncomputable section

namespace Cert.Proof.ReferenceIdeal

open Cert.ReferenceIdeal Cert.ReferenceIdeal.Gen Cert.ReferenceIdeal.Read
open Idealize.ShloMosaic Idealize.ShloMosaic.ValueIdx
open Finset

/-- A sum over the elements' indices is the sum over their numbers. -/
theorem sum_elements (f : S3200000.Idx → EReal) (X : ℕ → EReal) (h : ∀ j : S3200000.Idx, f j = X (j 0).val) :
    ∑ j : S3200000.Idx, f j = ∑ n ∈ range 3200000, X n := by
  rw [← Fin.sum_univ_eq_sum_range X 3200000]
  exact Fintype.sum_equiv (idxEquiv1 (n := 3200000)) _ _ fun j => h j

/-- A sum over the groups' indices is the sum over their numbers. -/
theorem sum_groups (f : S8.Idx → EReal) (M : Fin 8 → EReal) (h : ∀ j : S8.Idx, f j = M (j 0)) : ∑ j : S8.Idx, f j = ∑ g, M g :=
  Fintype.sum_equiv (idxEquiv1 (n := 8)) _ _ fun j => h j

/-- An element lands at the group its label names. -/
theorem lands (idx : IVec S3200000x1 32) (j : S3200000.Idx) (g : Fin 8) :
    scatter_S8_S3200000x1_S3200000_n_0_0_1.resultIdx? j idx = some (ix1 g) ↔ (idx (ix2 (j 0) 0)).toInt = g.val := by
  have hw : scatter_S8_S3200000x1_S3200000_n_0_0_1.window j 0 = 0 := rfl
  have hs : scatter_S8_S3200000x1_S3200000_n_0_0_1.start j idx 0 = (idx (ix2 (j 0) 0)).toInt := by
    refine congrArg (fun z => (idx z).toInt) (funext fun a => ?_)
    fin_cases a <;> rfl
  rw [Routing.resultIdx?_ix1 scatter_S8_S3200000x1_S3200000_n_0_0_1 j idx g, hw, hs]
  simp

/-- The host's scatter that adds, at ideal floats. -/
theorem scatterAdd_ideal {s si u : Shape} {w : Nat} (d : ScatterDims s si u) (x : FVec Ideal s .f32) (idx : IVec si w) (upd : FVec Ideal u .f32) :
    Host.scatterAdd d x idx upd = Ideal.hostScatterAdd d x idx upd := rfl

/-- The values that land at a group, from zero: the sum of the values of the elements of that label. -/
theorem scatter_eq (x : S8.Idx → EReal) (idx : IVec S3200000x1 32) (u : S3200000.Idx → EReal) (X : ℕ → EReal) (L : ℕ → ℕ) (g : Fin 8)
    (hx : x (ix1 g) = 0) (hu : ∀ j, u j = X (j 0).val) (hi : ∀ j : S3200000.Idx, (idx (ix2 (j 0) 0)).toInt = L (j 0).val) :
    Ideal.hostScatterAdd scatter_S8_S3200000x1_S3200000_n_0_0_1 x idx u (ix1 g) = ∑ n ∈ range 3200000, if L n = g.val then X n else 0 := by
  unfold Ideal.hostScatterAdd
  rw [hx, zero_add, sum_filter]
  refine sum_elements _ _ fun j => ?_
  rw [hu]
  have e := lands idx j g
  rw [hi] at e
  by_cases h : L (j 0).val = g.val
  · rw [if_pos h, if_pos (e.2 (by rw [h]))]
  · rw [if_neg h, if_neg fun q => h (by exact_mod_cast e.1 q)]

/-- Eight less the one read from the second argument of the variance is seven. -/
theorem seven : (val_main_call0_v8 (F := Ideal)) = fun _ => Ideal.ofBits .f32 0x40E00000#32 := by
  funext i
  show Ideal.ofBits .f32 0x41000000#32 - (((1#32 : BitVec 32).toInt : ℝ) : EReal) = _
  rw [ofBits_eight, ofBits_seven, show ((1#32 : BitVec 32).toInt) = 1 by decide, ← EReal.coe_sub]
  norm_num

/-- So the variance is the quotient, not the value for too few groups. -/
theorem enough (i : S_.Idx) : val_main_call0_v11 (F := Ideal) i = 1#1 := by
  show Ideal.cmp .ogt (val_main_call0_v8 (F := Ideal) i) (Ideal.ofBits .f32 0x00000000#32) = 1#1
  rw [seven, ofBits_seven, Ideal.ofBits_zero_f32]
  show BitVec.ofBool (decide (0 < ((7 : ℝ) : EReal))) = 1#1
  rw [decide_eq_true (by exact_mod_cast (by norm_num : (0 : ℝ) < 7))]
  rfl

variable (p t : Vec Ideal S3200000 .f32) (l : Vec Ideal S3200000 .i32) (X : ℕ → EReal) (L : ℕ → ℕ)
  (hX : ∀ j : S3200000.Idx, ((p j : EReal) - t j) * ((p j : EReal) - t j) = X (j 0).val) (hL : ∀ j : S3200000.Idx, (l j).toInt = L (j 0).val)

include hL in
/-- The index of an element in the reference's array of indices is its label. -/
theorem label_v5 (j : S3200000.Idx) : (val_main_v5 (F := Ideal) l (ix2 (j 0) 0)).toInt = L (j 0).val := by
  rw [val_main_v5_apply, ← hL j]
  exact congrArg (fun z => (l z).toInt) ((eq_ix1 _).trans (eq_ix1 j).symm)

include hX in
/-- The reference's squared differences. -/
theorem sq_v1 (j : S3200000.Idx) : val_main_v1 (F := Ideal) p t j = X (j 0).val := by
  rw [← hX j, val_main_v1_apply, val_main_v0_apply]
  rfl

include hL in
/-- The same of the second array of indices. -/
theorem label_v9 (j : S3200000.Idx) : (val_main_v9 (F := Ideal) l (ix2 (j 0) 0)).toInt = L (j 0).val := by
  rw [val_main_v9_apply, ← hL j]
  exact congrArg (fun z => (l z).toInt) ((eq_ix1 _).trans (eq_ix1 j).symm)

include hX hL in
/-- The reference's group sums. -/
theorem groupSums (g : Fin 8) : (val_main_v6 (F := Ideal) p t l (ix1 g) : EReal) = ∑ n ∈ range 3200000, if L n = g.val then X n else 0 := by
  have h := scatter_eq (val_main_v4 (F := Ideal)) (val_main_v5 (F := Ideal) l) (val_main_v1 (F := Ideal) p t) X L g
    ((val_main_v4_apply _).trans Ideal.ofBits_zero_f32) (sq_v1 p t X hX) (label_v5 l L hL)
  unfold val_main_v6
  rw [scatterAdd_ideal]
  exact h

include hL in
/-- The reference's group counts. -/
theorem groupCounts (g : Fin 8) : (val_main_v10 (F := Ideal) l (ix1 g) : EReal)
    = ∑ n ∈ range 3200000, if L n = g.val then Ideal.ofBits .f32 0x3F800000#32 else 0 := by
  have h := scatter_eq (val_main_v8 (F := Ideal)) (val_main_v9 (F := Ideal) l) (val_main_v7 (F := Ideal)) (fun _ => Ideal.ofBits .f32 0x3F800000#32) L g
    ((val_main_v8_apply _).trans Ideal.ofBits_zero_f32) (fun j => val_main_v7_apply j) (label_v9 l L hL)
  unfold val_main_v10
  rw [scatterAdd_ideal]
  exact h

include hX hL in
/-- The reference's group means. -/
theorem means (j : S8.Idx) : val_main_v13 (F := Ideal) p t l j
    = groupMean (fun g => ∑ n ∈ range 3200000, if L n = g.val then X n else 0)
        (fun g => ∑ n ∈ range 3200000, if L n = g.val then Ideal.ofBits .f32 0x3F800000#32 else 0) (j 0) := by
  obtain ⟨g, rfl⟩ : ∃ g : Fin 8, j = ix1 g := ⟨j 0, eq_ix1 j⟩
  have h1 : val_main_v11 (F := Ideal) (ix1 g) = Ideal.ofBits .f32 0x3F800000#32 := val_main_v11_apply _
  have hg : ∀ S C : Fin 8 → EReal, val_main_v6 (F := Ideal) p t l (ix1 g) = S g → val_main_v10 (F := Ideal) l (ix1 g) = C g →
      val_main_v13 (F := Ideal) p t l (ix1 g) = groupMean S C ((ix1 g : S8.Idx) 0) := fun S C eS eC => by
    rw [val_main_v13_apply, val_main_v12_apply, eS, eC, h1]
    rfl
  exact hg (fun g => ∑ n ∈ range 3200000, if L n = g.val then X n else 0)
    (fun g => ∑ n ∈ range 3200000, if L n = g.val then Ideal.ofBits .f32 0x3F800000#32 else 0)
    (groupSums p t l X L hX hL g) (groupCounts l L hL g)

/-- The variance from its two operands. -/
theorem quotient (i : S_.Idx) (s d : EReal) (hs : (val_main_call0_v9 (F := Ideal) p t l i : EReal) = s) (hd : (val_main_call0_v8 (F := Ideal) i : EReal) = d) :
    (val_main_v14 (F := Ideal) p t l i : EReal) = Ideal.div s d := by
  have hq : (val_main_call0_v10 (F := Ideal) p t l i : EReal) = Ideal.div s d := by
    rw [val_main_call0_v10_apply, hs, hd]
    rfl
  have hsel : ∀ x y : EReal, Scalar.select 1#1 x y = x := fun _ _ => rfl
  rw [val_main_v14_apply, enough]
  exact (hsel _ _).trans hq

include hX in
/-- The reference's mean of the squared differences. -/
theorem base (i : S_.Idx) : (val_main_v3 (F := Ideal) p t i : EReal) = Ideal.div (∑ n ∈ range 3200000, X n) (Ideal.ofBits .f32 0x4A435000#32) := by
  have h : ∀ T : EReal, ∑ j : S3200000.Idx, (val_main_v1 (F := Ideal) p t j : EReal) = T →
      (val_main_v3 (F := Ideal) p t i : EReal) = Ideal.div T (Ideal.ofBits .f32 0x4A435000#32) := fun T eT => by
    rw [val_main_v3_apply, val_main_v2_apply]
    refine congrArg (fun z : EReal => Ideal.div z (Ideal.ofBits .f32 0x4A435000#32)) ?_
    exact (congrArg₂ (fun y z : EReal => y + z) Ideal.ofBits_zero_f32 eT).trans (zero_add T)
  exact h _ (sum_elements (val_main_v1 (F := Ideal) p t) X (sq_v1 p t X hX))

include hX hL in
/-- The reference's result. -/
theorem ref_eq (i : S_.Idx) : val_main_v16 (F := Ideal) p t l i = lossOf X (fun _ => Ideal.ofBits .f32 0x3F800000#32) L 3200000 := by
  have hM := means p t l X L hX hL
  unfold lossOf loss
  generalize groupMean (fun g => ∑ n ∈ range 3200000, if L n = g.val then X n else 0)
    (fun g => ∑ n ∈ range 3200000, if L n = g.val then Ideal.ofBits .f32 0x3F800000#32 else 0) = M at hM ⊢
  have hmu : ∀ j : S8.Idx, val_main_call0_v4 (F := Ideal) p t l j = Ideal.div (∑ k, M k) (Ideal.ofBits .f32 0x41000000#32) := fun j => by
    rw [val_main_call0_v4_apply, val_main_call0_v3_apply, val_main_call0_v1_apply, val_main_call0_v2_apply, val_main_call0_v0_apply, sum_groups _ M hM]
    exact congrArg (fun z => Ideal.div z (Ideal.ofBits .f32 0x41000000#32))
      ((congrArg (fun z : EReal => z + _) Ideal.ofBits_zero_f32).trans (zero_add _))
  have hV : val_main_call0_v9 (F := Ideal) p t l i = spread M := by
    rw [val_main_call0_v9_apply, sum_groups _ (fun g => (M g - Ideal.div (∑ k, M k) (Ideal.ofBits .f32 0x41000000#32))
      * (M g - Ideal.div (∑ k, M k) (Ideal.ofBits .f32 0x41000000#32))) fun j => by rw [val_main_call0_v6_apply, val_main_call0_v5_apply, hmu, hM]; rfl]
    exact (congrArg (fun z : EReal => z + _) Ideal.ofBits_zero_f32).trans (zero_add _)
  have hv : val_main_v14 (F := Ideal) p t l i = Ideal.div (spread M) (Ideal.ofBits .f32 0x40E00000#32) :=
    quotient p t l i _ _ hV (congrFun seven i)
  rw [val_main_v16_apply, base p t X hX, val_main_v15_apply, hv]
  generalize Ideal.div (spread M) (Ideal.ofBits .f32 0x40E00000#32) = V
  generalize Ideal.div (∑ n ∈ range 3200000, X n) (Ideal.ofBits .f32 0x4A435000#32) = T
  show T + Ideal.ofBits .f32 0x3F800000#32 * V = T + V
  rw [Ideal.ofBits_one_f32, one_mul]

end Cert.Proof.ReferenceIdeal

end
-- ==== Proof.lean ====
/-
  The proof of `Cert.Claim` (proofs.«01_k».proof.Defs).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_labels_in_range
public import proofs.«01_k».proof.Proof.KernelRun
public import proofs.«01_k».proof.Proof.KernelIdealRun
public import proofs.«01_k».proof.Proof.Labels
public import proofs.«01_k».proof.Proof.FinalValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel at bit-exact floats ends, its arguments as they were and its counters at zero. -/
theorem frame_Kernel [Cert.Pre_labels_in_range.Facts] : Cert.quiescent_Kernel := fun m ρ hpre =>
  (θ_run Cert.Kernel.defs _ _).mono (fun _ h => ⟨fun c => (h.1 c).2, h.2⟩)
    (Cert.Proof.Kernel.run_main (F := Bits) m ρ fun d j => labels_lt _ _ _ (hpre d) j)

/-- The kernel at ideal floats ends, its arguments as they were and its counters at zero. -/
theorem frame_KernelIdeal [Cert.Pre_labels_in_range.Facts] : Cert.quiescent_KernelIdeal := fun m ρ hpre =>
  (θ_run Cert.KernelIdeal.defs _ _).mono (fun _ h => ⟨fun c => (h.1 c).2, h.2⟩)
    (Cert.Proof.KernelIdeal.run_main (F := Ideal) m ρ fun d j => labels_lt _ _ _ (hpre d) j)

/-- The reference at ideal floats ends, its arguments as they were; it has no counters. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which the reference does not need. -/
theorem frame_ReferenceIdeal_pre [Cert.Pre_labels_in_range.Facts] : Cert.quiescent_ReferenceIdeal_pre_labels_in_range := fun m ρ _ =>
  frame_ReferenceIdeal m ρ trivial

/-- Element `j` of an argument is the element of `j`'s number. -/
theorem argIx_self (j : Cert.KernelIdeal.S3200000.Idx) : Cert.Proof.KernelIdeal.argIx (j 0).val = j :=
  funext fun a => Fin.ext (by fin_cases a; exact Nat.mod_eq_of_lt (j 0).isLt)

/-- At ideal floats the kernel and the reference, of equal arguments whose labels are below 8, end with equal results. -/
theorem algebraic [Cert.Pre_labels_in_range.Facts] : Cert.algebraic_KernelIdeal_ReferenceIdeal := fun m ρ m' ρ' hpre hm => by
  have hl : ∀ d j, (m (Cert.Proof.KernelIdeal.lLoc d) j).toNat < 8 := fun d j => labels_lt _ _ _ (hpre d) j
  refine ⟨fun d => Cert.Proof.KernelIdeal.valR (F := Ideal) m d,
    (θ_run Cert.KernelIdeal.defs _ _).mono (fun _ h => h.1) (Cert.Proof.KernelIdeal.run_main (F := Ideal) m ρ hl),
    (θ_run Cert.ReferenceIdeal.defs _ _).mono (fun _ h c => ⟨(h c).1.trans ?_, (h c).2⟩) (Cert.ReferenceIdeal.Value.run (F := Ideal) m' ρ')⟩
  obtain ⟨e0, e1, e2⟩ := hm c
  rw [Cert.ReferenceIdeal.Read.val_main_v16_eq, e0, e1, e2]
  funext i
  refine (Cert.Proof.ReferenceIdeal.ref_eq _ _ _ (Cert.Proof.KernelIdeal.sqAt _ _) (Cert.Proof.KernelIdeal.labAt _) (fun j => ?_) (fun j => ?_) i).trans
    (Cert.Proof.KernelIdeal.valR_eq m c (hl c) i).symm
  · unfold Cert.Proof.KernelIdeal.sqAt
    rw [argIx_self]
  · have h := hl c j
    unfold Cert.Proof.KernelIdeal.labAt
    rw [argIx_self]
    exact BitVec.toInt_eq_toNat_of_lt (Nat.lt_of_le_of_lt (Nat.mul_le_mul_left 2 (Nat.le_of_lt h)) (by decide))

/-- Everything the certificate claims. -/
theorem claim : Cert.Claim :=
  ⟨Cert.Kernel.Gen.facts, Cert.KernelIdeal.Gen.facts, Cert.ReferenceIdeal.Gen.facts, Cert.Pre_labels_in_range.Gen.facts,
    frame_Kernel, frame_KernelIdeal, frame_ReferenceIdeal, frame_ReferenceIdeal_pre, trivial, algebraic⟩

end Cert.Proof

end
